-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![4, 4096, 8, 128]⟩ ⟨4, ![4, 8192, 8, 128]⟩ (Layout.meshBlock [2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 4096, 8, 128]⟩ ⟨4, ![4, 8192, 8, 128]⟩ (Layout.meshBlock [2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x32x8x128 : Shape := ⟨4, ![4, 32, 8, 128]⟩
abbrev S4x4096x8x128 : Shape := ⟨4, ![4, 4096, 8, 128]⟩
abbrev S_ : Shape := ⟨0, ![]⟩

class Facts : Prop where
  bcast_S_S4x32x8x128 : S_.BroadcastsInDim S4x32x8x128 (![] : Fin 0 → Fin S4x32x8x128.rank)
  bcast_S_S4x4096x8x128 : S_.BroadcastsInDim S4x4096x8x128 (![] : Fin 0 → Fin S4x4096x8x128.rank)

variable [Facts]

def fn {F : FTy → Type} [FloatOps F] (main_arg0 : FVec F S4x32x8x128 .f32) (main_arg1 : FVec F S4x4096x8x128 .f32) (main_arg2 : FVec F S4x4096x8x128 .f32) : IVec S4x32x8x128 1 × IVec S4x4096x8x128 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_v3 : FVec F S4x4096x8x128 .f32 := Host.absf main_arg1
  let main_cst_0 : FVec F S_ .f32 := constant S_ .f32 0x7F800000#32
  let main_v4 : FVec F S4x4096x8x128 .f32 := broadcastInDim S4x4096x8x128 ![] bcast_S_S4x4096x8x128 main_cst_0
  let main_v5 : IVec S4x4096x8x128 1 := cmpf .olt main_v3 main_v4
  (main_v2, main_v5)
-- ==== Pre_finite_ReferenceIdeal.lean ====
abbrev S4x32x8x128 : Shape := ⟨4, ![4, 32, 8, 128]⟩
abbrev S4x8192x8x128 : Shape := ⟨4, ![4, 8192, 8, 128]⟩
abbrev S_ : Shape := ⟨0, ![]⟩

class Facts : Prop where
  bcast_S_S4x32x8x128 : S_.BroadcastsInDim S4x32x8x128 (![] : Fin 0 → Fin S4x32x8x128.rank)
  bcast_S_S4x8192x8x128 : S_.BroadcastsInDim S4x8192x8x128 (![] : Fin 0 → Fin S4x8192x8x128.rank)

variable [Facts]

def fn {F : FTy → Type} [FloatOps F] (main_arg0 : FVec F S4x32x8x128 .f32) (main_arg1 : FVec F S4x8192x8x128 .f32) (main_arg2 : FVec F S4x8192x8x128 .f32) : IVec S4x32x8x128 1 × IVec S4x8192x8x128 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_v3 : FVec F S4x8192x8x128 .f32 := Host.absf main_arg1
  let main_cst_0 : FVec F S_ .f32 := constant S_ .f32 0x7F800000#32
  let main_v4 : FVec F S4x8192x8x128 .f32 := broadcastInDim S4x8192x8x128 ![] bcast_S_S4x8192x8x128 main_cst_0
  let main_v5 : IVec S4x8192x8x128 1 := cmpf .olt main_v3 main_v4
  (main_v2, main_v5)
-- ==== Kernel.lean ====
abbrev S4x32x8x128 : Shape := ⟨4, ![4, 32, 8, 128]⟩
abbrev S4x4096x8x128 : Shape := ⟨4, ![4, 4096, 8, 128]⟩
abbrev S_ : Shape := ⟨0, ![]⟩
abbrev S1 : Shape := ⟨1, ![1]⟩
abbrev S4x32x1024 : Shape := ⟨3, ![4, 32, 1024]⟩
abbrev S4x512x8x128 : Shape := ⟨4, ![4, 512, 8, 128]⟩
abbrev S8x4x512x128 : Shape := ⟨4, ![8, 4, 512, 128]⟩
abbrev S2x8 : Shape := ⟨2, ![2, 8]⟩
abbrev S4x32x8 : Shape := ⟨3, ![4, 32, 8]⟩
abbrev S4 : Shape := ⟨1, ![4]⟩
abbrev S1x1 : Shape := ⟨2, ![1, 1]⟩
abbrev S1x4x512x128 : Shape := ⟨4, ![1, 4, 512, 128]⟩
abbrev S4x512x128 : Shape := ⟨3, ![4, 512, 128]⟩
abbrev S4x512x1x128 : Shape := ⟨4, ![4, 512, 1, 128]⟩
abbrev S4x32x128 : Shape := ⟨3, ![4, 32, 128]⟩
abbrev S4x32x512 : Shape := ⟨3, ![4, 32, 512]⟩
abbrev S4x32x1 : Shape := ⟨3, ![4, 32, 1]⟩
abbrev S4x32 : Shape := ⟨2, ![4, 32]⟩

abbrev nBuf : Space → Nat
  | .hbm => 12
  | .vmem => 19
  | .smem => 1
  | _ => 0

abbrev bufTy : (tb : Table) → Fin (tcTables nBuf tb) → BufTy
  | .hbm, ⟨0, _⟩ => ⟨S4x32x8x128, .f32⟩
  | .hbm, ⟨1, _⟩ => ⟨S4x4096x8x128, .f32⟩
  | .hbm, ⟨2, _⟩ => ⟨S4x4096x8x128, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S4x32x1024, .f32⟩
  | .hbm, ⟨10, _⟩ => ⟨S4x32x1024, .f32⟩
  | .hbm, ⟨11, _⟩ => ⟨S4x32x8x128, .f32⟩
  | .local _ .vmem, ⟨0, _⟩ => ⟨S4x32x1024, .f32⟩
  | .local _ .vmem, ⟨1, _⟩ => ⟨S4x512x8x128, .f32⟩
  | .local _ .vmem, ⟨2, _⟩ => ⟨S4x512x8x128, .f32⟩
  | .local _ .vmem, ⟨3, _⟩ => ⟨S4x512x8x128, .f32⟩
  | .local _ .vmem, ⟨4, _⟩ => ⟨S4x512x8x128, .f32⟩
  | .local _ .vmem, ⟨5, _⟩ => ⟨S4x32x1024, .f32⟩
  | .local _ .vmem, ⟨6, _⟩ => ⟨S8x4x512x128, .f32⟩
  | .local _ .vmem, ⟨7, _⟩ => ⟨S8x4x512x128, .f32⟩
  | .local _ .vmem, ⟨8, _⟩ => ⟨S4x32x1024, .f32⟩
  | .local _ .vmem, ⟨9, _⟩ => ⟨S4x32x8, .f32⟩
  | .local _ .vmem, ⟨10, _⟩ => ⟨S4x32x8, .f32⟩
  | .local _ .vmem, ⟨11, _⟩ => ⟨S4x32x1024, .bf16⟩
  | .local _ .vmem, ⟨12, _⟩ => ⟨S4x32x1024, .bf16⟩
  | .local _ .vmem, ⟨13, _⟩ => ⟨S4x32x8, .f32⟩
  | .local _ .vmem, ⟨14, _⟩ => ⟨S4x32x8, .f32⟩
  | .local _ .vmem, ⟨15, _⟩ => ⟨S4x32x1024, .bf16⟩
  | .local _ .vmem, ⟨16, _⟩ => ⟨S4x32x1024, .bf16⟩
  | .local _ .vmem, ⟨17, _⟩ => ⟨S4x32x8, .f32⟩
  | .local _ .vmem, ⟨18, _⟩ => ⟨S4x32x8, .f32⟩
  | .local _ .smem, ⟨0, _⟩ => ⟨S1, .i32⟩
  | _, _ => ⟨S4x32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_scratch11 : Ref sig .tc := ⟨.vmem, 16, rfl⟩
abbrev cc0_scratch12 : Ref sig .tc := ⟨.vmem, 17, rfl⟩
abbrev cc0_scratch13 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev barrier0 : Sem sig := 0

abbrev nD : Nat := 4
abbrev τ : Topo := Topo.v7x

variable {F : FTy → Type} [FloatOps F]

abbrev grid0 : Pipeline.Grid := ⟨1, ![4], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_4 : BitVec 32 := 0#32
  let v10 : BitVec 1 := Scalar.cmpi .ne v9 c0_i32_4
  v10

def k0_dev1 (d0 : Dev nD) : Nat :=
  let c0_i32_580 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_579 : BitVec 32 := 2#32
  let v503 : BitVec 32 := Scalar.muli v2 c2_i32_579
  let v504 : BitVec 32 := Scalar.addi c0_i32_580 v503
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_581 : BitVec 32 := 1#32
  let v505 : BitVec 32 := Scalar.muli v6 c1_i32_581
  let v506 : BitVec 32 := Scalar.addi v504 v505
  v506.toNat
def k0_dev2 (d0 : Dev nD) : Nat :=
  let c0_i32_584 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_583 : BitVec 32 := 2#32
  let v507 : BitVec 32 := Scalar.muli v7 c2_i32_583
  let v508 : BitVec 32 := Scalar.addi c0_i32_584 v507
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_585 : BitVec 32 := 1#32
  let v509 : BitVec 32 := Scalar.muli v5 c1_i32_585
  let v510 : BitVec 32 := Scalar.addi v508 v509
  v510.toNat
def k0_cond2 (i : grid0.Coords) : BitVec 1 :=
  let arg0 : BitVec 32 := BitVec.ofNat 32 (i 0).val
  let c3_i32_576 : BitVec 32 := 3#32
  let v499 : BitVec 1 := Scalar.cmpi .eq arg0 c3_i32_576
  let v500 : BitVec 32 := Scalar.extui v499
  let c0_i32_577 : BitVec 32 := 0#32
  let v501 : BitVec 1 := Scalar.cmpi .ne v500 c0_i32_577
  v501

def k0_dev3 (d0 : Dev nD) : Nat :=
  let c0_i32_662 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_661 : BitVec 32 := 2#32
  let v573 : BitVec 32 := Scalar.muli v2 c2_i32_661
  let v574 : BitVec 32 := Scalar.addi c0_i32_662 v573
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_663 : BitVec 32 := 1#32
  let v575 : BitVec 32 := Scalar.muli v6 c1_i32_663
  let v576 : BitVec 32 := Scalar.addi v574 v575
  v576.toNat
def k0_dev4 (d0 : Dev nD) : Nat :=
  let c0_i32_667 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_666 : BitVec 32 := 2#32
  let v581 : BitVec 32 := Scalar.muli v2 c2_i32_666
  let v582 : BitVec 32 := Scalar.addi c0_i32_667 v581
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_668 : BitVec 32 := 1#32
  let v583 : BitVec 32 := Scalar.muli v6 c1_i32_668
  let v584 : BitVec 32 := Scalar.addi v582 v583
  v584.toNat
def k0_dev5 (d0 : Dev nD) : Nat :=
  let c0_i32_832 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_831 : BitVec 32 := 2#32
  let v829 : BitVec 32 := Scalar.muli v7 c2_i32_831
  let v830 : BitVec 32 := Scalar.addi c0_i32_832 v829
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_833 : BitVec 32 := 1#32
  let v831 : BitVec 32 := Scalar.muli v5 c1_i32_833
  let v832 : BitVec 32 := Scalar.addi v830 v831
  v832.toNat
def k0_dev6 (d0 : Dev nD) : Nat :=
  let c0_i32_837 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_836 : BitVec 32 := 2#32
  let v837 : BitVec 32 := Scalar.muli v7 c2_i32_836
  let v838 : BitVec 32 := Scalar.addi c0_i32_837 v837
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_838 : BitVec 32 := 1#32
  let v839 : BitVec 32 := Scalar.muli v5 c1_i32_838
  let v840 : BitVec 32 := Scalar.addi v838 v839
  v840.toNat
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4x32x8x128 : Shape := ⟨4, ![4, 32, 8, 128]⟩
abbrev S4x8192x8x128 : Shape := ⟨4, ![4, 8192, 8, 128]⟩
abbrev S4x8x32x8192 : Shape := ⟨4, ![4, 8, 32, 8192]⟩
abbrev S_ : Shape := ⟨0, ![]⟩
abbrev S4x8x32 : Shape := ⟨3, ![4, 8, 32]⟩
abbrev S4x8x32x1 : Shape := ⟨4, ![4, 8, 32, 1]⟩
abbrev S4x8x128x32 : Shape := ⟨4, ![4, 8, 128, 32]⟩

abbrev nBuf : Space → Nat
  | .hbm => 20
  | .vmem => 0
  | .smem => 0
  | _ => 0

abbrev bufTy : (tb : Table) → Fin (tcTables nBuf tb) → BufTy
  | .hbm, ⟨0, _⟩ => ⟨S4x32x8x128, .f32⟩
  | .hbm, ⟨1, _⟩ => ⟨S4x8192x8x128, .f32⟩
  | .hbm, ⟨2, _⟩ => ⟨S4x8192x8x128, .f32⟩
  | .hbm, ⟨3, _⟩ => ⟨S4x8x32x8192, .f32⟩
  | .hbm, ⟨4, _⟩ => ⟨S_, .f32⟩
  | .hbm, ⟨5, _⟩ => ⟨S4x8x32x8192, .f32⟩
  | .hbm, ⟨6, _⟩ => ⟨S4x8x32x8192, .f32⟩
  | .hbm, ⟨7, _⟩ => ⟨S_, .f32⟩
  | .hbm, ⟨8, _⟩ => ⟨S4x8x32, .f32⟩
  | .hbm, ⟨9, _⟩ => ⟨S4x8x32x1, .f32⟩
  | .hbm, ⟨10, _⟩ => ⟨S4x8x32x8192, .f32⟩
  | .hbm, ⟨11, _⟩ => ⟨S4x8x32x8192, .f32⟩
  | .hbm, ⟨12, _⟩ => ⟨S4x8x32x8192, .f32⟩
  | .hbm, ⟨13, _⟩ => ⟨S_, .f32⟩
  | .hbm, ⟨14, _⟩ => ⟨S4x8x32, .f32⟩
  | .hbm, ⟨15, _⟩ => ⟨S4x8x32x1, .f32⟩
  | .hbm, ⟨16, _⟩ => ⟨S4x8x32x8192, .f32⟩
  | .hbm, ⟨17, _⟩ => ⟨S4x8x32x8192, .f32⟩
  | .hbm, ⟨18, _⟩ => ⟨S4x8x128x32, .f32⟩
  | .hbm, ⟨19, _⟩ => ⟨S4x32x8x128, .f32⟩
  | _, _ => ⟨S4x32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Base.lean ====
/- The ghost algebra and the names shared by the modules of this proof. -/
module

public import proofs.«01_k».proof.Proof.Gen.KernelIdeal.Launch
public import proofs.«01_k».proof.Proof.Gen.KernelIdeal.Skeleton
public import Idealize.ShloMosaic.Lib.Tactic
public import Idealize.ShloMosaic.Lib.Rounds
public import Idealize.ShloMosaic.Lib.Transfers

@[expose] public section

noncomputable section

namespace Cert.KProof

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The ghost state: the rounds of the pipeline and the rounds of the exchange, the counters of the local copies. -/
abbrev UU : Type := UR sig nD τ × (URounds (GSem nD τ sig) Bool × Counters)

end Cert.KProof

end
-- ==== Proof.Stretch.lean ====
/- The kernel body cut in the three stretches its two conditionals make. -/
module

public import proofs.«01_k».proof.Proof.Base

@[expose] public section

noncomputable section

namespace Cert.KProof

open Cert.KernelIdeal Cert.KernelIdeal.Gen
open Idealize.ShloMosaic Idealize.ShloMosaic.TcCoe
open Idealize.SL.Sem

variable {F : FTy → Type} [FloatOps F]

/-! ## The body's three stretches

The barrier and the clearing of the running sums (first point only), the sixteen copies and the eight heads (every
point), the two exchanges (last point only). -/

/-- The first point's stretch: both neighbours are signalled, two units awaited, the running sums cleared. -/
def initProg (i : grid0.Coords) (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole) (arg6 : Memref sig .tc .vmem S8x4x512x128 .f32) (harg6 : arg6.IsWhole) (arg7 : Memref sig .tc .vmem S8x4x512x128 .f32) (harg7 : arg7.IsWhole) (arg8 : DmaSems sig S2x8) (arg9 : Memref sig .tc .vmem S4x32x1024 .f32) (harg9 : arg9.IsWhole) (arg10 : Memref sig .tc .vmem S4x32x8 .f32) (harg10 : arg10.IsWhole) (arg11 : Memref sig .tc .vmem S4x32x8 .f32) (harg11 : arg11.IsWhole) (arg12 : Memref sig .tc .vmem S4x32x1024 .bf16) (harg12 : arg12.IsWhole) (arg13 : Memref sig .tc .vmem S4x32x1024 .bf16) (harg13 : arg13.IsWhole) (arg14 : Memref sig .tc .vmem S4x32x8 .f32) (harg14 : arg14.IsWhole) (arg15 : Memref sig .tc .vmem S4x32x8 .f32) (harg15 : arg15.IsWhole) (arg16 : Memref sig .tc .vmem S4x32x1024 .bf16) (harg16 : arg16.IsWhole) (arg17 : Memref sig .tc .vmem S4x32x1024 .bf16) (harg17 : arg17.IsWhole) (arg18 : Memref sig .tc .vmem S4x32x8 .f32) (harg18 : arg18.IsWhole) (arg19 : Memref sig .tc .vmem S4x32x8 .f32) (harg19 : arg19.IsWhole) (arg20 : DmaSems sig S4) (arg21 : DmaSems sig S4) (d0 : Dev nD) (k0_h1 : k0_cond1 i = 1#1) :
    Prog (TpuEff nD τ sig (Elt F) Λ₀ .tc) PUnit := do
  let v502 : Sems sig S_ := SemArray.scalar (sig.barrier 0 rfl)
  semSignalWord (⟨k0_dev1 d0, k0_dev1_lt i d0 k0_h1⟩ : Dev nD) v502.sem 1#32
  semSignalWord (⟨k0_dev2 d0, k0_dev2_lt i d0 k0_h1⟩ : Dev nD) v502.sem 1#32
  semWaitWord v502.sem 2#32
  let v512 : Vec F S4x32x1024 .f32 ← Prog.lift (.load arg9 (Rect.unit (s := S4x32x1024) ![0, 0, 0] S4x32x1024.size inb_S4x32x1024_S4x32x1024_0_0_0).toLoadRect (View.loadsAt_vmem h_S4x32x1024))
  Prog.lift (.store arg9 (Rect.unit (s := S4x32x1024) ![0, 0, 0] S4x32x1024.size inb_S4x32x1024_S4x32x1024_0_0_0) (k0_pay91 (F := F)) Finset.univ (View.stores_vmem_bits_univ h_S4x32x1024 rfl) (.inl rfl))
  let v516 : Vec F S4x32x8 .f32 ← Prog.lift (.load arg10 (Rect.unit (s := S4x32x8) ![0, 0, 0] S4x32x8.size inb_S4x32x8_S4x32x8_0_0_0).toLoadRect (View.loadsAt_vmem h_S4x32x8))
  Prog.lift (.store arg10 (Rect.unit (s := S4x32x8) ![0, 0, 0] S4x32x8.size inb_S4x32x8_S4x32x8_0_0_0) (k0_pay92 (F := F)) Finset.univ (View.stores_vmem_bits_univ h_S4x32x8 rfl) (.inl rfl))
  let v520 : Vec F S4x32x8 .f32 ← Prog.lift (.load arg11 (Rect.unit (s := S4x32x8) ![0, 0, 0] S4x32x8.size inb_S4x32x8_S4x32x8_0_0_0).toLoadRect (View.loadsAt_vmem h_S4x32x8))
  Prog.lift (.store arg11 (Rect.unit (s := S4x32x8) ![0, 0, 0] S4x32x8.size inb_S4x32x8_S4x32x8_0_0_0) (k0_pay93 (F := F)) Finset.univ (View.stores_vmem_bits_univ h_S4x32x8 rfl) (.inl rfl))
  pure ⟨⟩

/-- What every point does: the copies, then head by head the wait and the update of the running sums; then `k`. -/
def coreProg (i : grid0.Coords) (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole) (arg6 : Memref sig .tc .vmem S8x4x512x128 .f32) (harg6 : arg6.IsWhole) (arg7 : Memref sig .tc .vmem S8x4x512x128 .f32) (harg7 : arg7.IsWhole) (arg8 : DmaSems sig S2x8) (arg9 : Memref sig .tc .vmem S4x32x1024 .f32) (harg9 : arg9.IsWhole) (arg10 : Memref sig .tc .vmem S4x32x8 .f32) (harg10 : arg10.IsWhole) (arg11 : Memref sig .tc .vmem S4x32x8 .f32) (harg11 : arg11.IsWhole) (arg12 : Memref sig .tc .vmem S4x32x1024 .bf16) (harg12 : arg12.IsWhole) (arg13 : Memref sig .tc .vmem S4x32x1024 .bf16) (harg13 : arg13.IsWhole) (arg14 : Memref sig .tc .vmem S4x32x8 .f32) (harg14 : arg14.IsWhole) (arg15 : Memref sig .tc .vmem S4x32x8 .f32) (harg15 : arg15.IsWhole) (arg16 : Memref sig .tc .vmem S4x32x1024 .bf16) (harg16 : arg16.IsWhole) (arg17 : Memref sig .tc .vmem S4x32x1024 .bf16) (harg17 : arg17.IsWhole) (arg18 : Memref sig .tc .vmem S4x32x8 .f32) (harg18 : arg18.IsWhole) (arg19 : Memref sig .tc .vmem S4x32x8 .f32) (harg19 : arg19.IsWhole) (arg20 : DmaSems sig S4) (arg21 : DmaSems sig S4) (k : Prog (TpuEff nD τ sig (Elt F) Λ₀ .tc) PUnit) :
    Prog (TpuEff nD τ sig (Elt F) Λ₀ .tc) PUnit := do
  let v11 : DmaSems sig S1x1 := arg8.slice (Rect.unit (s := S2x8) ![0, 0] S1x1.size inb_S2x8_S1x1_0_0)
  let v12 : DmaSems sig S_ := v11.squeeze S_ squeezes_S1x1_S_
  let v13 : Memref sig .tc .vmem S1x4x512x128 .f32 := arg6.slice (Rect.unit (s := S8x4x512x128) ![0, 0, 0, 0] S1x4x512x128.size inb_S8x4x512x128_S1x4x512x128_0_0_0_0) (fun _ => rfl)
  let v14 : Memref sig .tc .vmem S4x512x128 .f32 := v13.squeeze S4x512x128 squeezes_S1x4x512x128_S4x512x128
  let v15 : Memref sig .tc .vmem S4x512x1x128 .f32 := arg3.slice (Rect.unit (s := S4x512x8x128) ![0, 0, 0, 0] S4x512x1x128.size inb_S4x512x8x128_S4x512x1x128_0_0_0_0) (fun _ => rfl)
  let v16 : Memref sig .tc .vmem S4x512x128 .f32 := v15.squeeze S4x512x128 squeezes_S4x512x1x128_S4x512x128
  Prog.lift (.enqueueDma v16 (.here v14) (.dma v12.sem) ((View.wordExact_bits rfl).reshape _ _) ((View.wordExact_bits rfl).reshape _ _) ⟨Or.inl rfl, trivial⟩)
  let v17 : DmaSems sig S1x1 := arg8.slice (Rect.unit (s := S2x8) ![1, 0] S1x1.size inb_S2x8_S1x1_1_0)
  let v18 : DmaSems sig S_ := v17.squeeze S_ squeezes_S1x1_S_
  let v19 : Memref sig .tc .vmem S1x4x512x128 .f32 := arg7.slice (Rect.unit (s := S8x4x512x128) ![0, 0, 0, 0] S1x4x512x128.size inb_S8x4x512x128_S1x4x512x128_0_0_0_0) (fun _ => rfl)
  let v20 : Memref sig .tc .vmem S4x512x128 .f32 := v19.squeeze S4x512x128 squeezes_S1x4x512x128_S4x512x128
  let v21 : Memref sig .tc .vmem S4x512x1x128 .f32 := arg4.slice (Rect.unit (s := S4x512x8x128) ![0, 0, 0, 0] S4x512x1x128.size inb_S4x512x8x128_S4x512x1x128_0_0_0_0) (fun _ => rfl)
  let v22 : Memref sig .tc .vmem S4x512x128 .f32 := v21.squeeze S4x512x128 squeezes_S4x512x1x128_S4x512x128
  Prog.lift (.enqueueDma v22 (.here v20) (.dma v18.sem) ((View.wordExact_bits rfl).reshape _ _) ((View.wordExact_bits rfl).reshape _ _) ⟨Or.inl rfl, trivial⟩)
  k0_part18 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21
  k0_part19 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21
  k0_part20 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21
  k0_part21 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21
  let ⟨v126, v127, v128, v129, v130⟩ : Σ' (v126 : FVec F S4x512x128 .f32) (v127 : FVec F S4x32x512 .f32) (v128 : Vec F S4x32x1 .f32) (v129 : Vec F S4x32x1 .f32), FVec F S4x32 .f32 ← k0_part22 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21
  k0_part23 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v126 v127 v128 v129 v130
  let ⟨v175, v181, v184, v186, v190⟩ : Σ' (v175 : FVec F S4x512x128 .f32) (v181 : FVec F S4x32x1 .f32) (v184 : FVec F S4x32x512 .f32) (v186 : FVec F S4x32x1 .f32), FVec F S4x32x1 .f32 ← k0_part24 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21
  k0_part25 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v175 v181 v184 v186 v190
  let ⟨v230, v239, v244⟩ : Σ' (v230 : FVec F S4x32x1 .f32) (v239 : FVec F S4x32x1 .f32), FVec F S4x32x128 .f32 ← k0_part26 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21
  let v269 : FVec F S4x32x128 .f32 ← k0_part27 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v230 v239 v244
  let v288 : FVec F S4x32x1 .f32 ← k0_part28 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v269
  let ⟨v318, v320, v322⟩ : Σ' (v318 : FVec F S4x32x128 .f32) (v320 : FVec F S4x512x128 .f32), FVec F S4x512x128 .f32 ← k0_part29 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v288
  k0_part30 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v318 v320 v322
  let ⟨v371, v372, v373, v374, v375⟩ : Σ' (v371 : FVec F S4x512x128 .f32) (v372 : FVec F S4x32x512 .f32) (v373 : Vec F S4x32x1 .f32) (v374 : Vec F S4x32x1 .f32), FVec F S4x32 .f32 ← k0_part31 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21
  k0_part32 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v371 v372 v373 v374 v375
  let ⟨v420, v426, v429, v431, v435⟩ : Σ' (v420 : FVec F S4x512x128 .f32) (v426 : FVec F S4x32x1 .f32) (v429 : FVec F S4x32x512 .f32) (v431 : FVec F S4x32x1 .f32), FVec F S4x32x1 .f32 ← k0_part33 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21
  k0_part34 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v420 v426 v429 v431 v435
  let ⟨v475, v484, v489⟩ : Σ' (v475 : FVec F S4x32x1 .f32) (v484 : FVec F S4x32x1 .f32), FVec F S4x32x128 .f32 ← k0_part35 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21
  let v490 : Vec F S4x32x128 .f32 ← Prog.lift (.load arg9 (Rect.unit (s := S4x32x1024) ![0, 0, 896] S4x32x128.size inb_S4x32x1024_S4x32x128_0_0_896).toLoadRect (View.loadsAt_vmem h_S4x32x128))
  Prog.lift (.store arg9 (Rect.unit (s := S4x32x1024) ![0, 0, 896] S4x32x128.size inb_S4x32x1024_S4x32x128_0_0_896) (k0_pay1 v489) Finset.univ (View.stores_vmem_bits_univ h_S4x32x128 rfl) (.inl rfl))
  let v493 : Vec F S4x32x1 .f32 ← Prog.lift (.load arg10 (Rect.unit (s := S4x32x8) ![0, 0, 7] S4x32x1.size inb_S4x32x8_S4x32x1_0_0_7).toLoadRect (View.loadsAt_vmem h_S4x32x1))
  Prog.lift (.store arg10 (Rect.unit (s := S4x32x8) ![0, 0, 7] S4x32x1.size inb_S4x32x8_S4x32x1_0_0_7) (k0_pay2 v475) Finset.univ (View.stores_vmem_bits_univ h_S4x32x1 rfl) (.inl rfl))
  let v496 : Vec F S4x32x1 .f32 ← Prog.lift (.load arg11 (Rect.unit (s := S4x32x8) ![0, 0, 7] S4x32x1.size inb_S4x32x8_S4x32x1_0_0_7).toLoadRect (View.loadsAt_vmem h_S4x32x1))
  Prog.lift (.store arg11 (Rect.unit (s := S4x32x8) ![0, 0, 7] S4x32x1.size inb_S4x32x8_S4x32x1_0_0_7) (k0_pay3 v484) Finset.univ (View.stores_vmem_bits_univ h_S4x32x1 rfl) (.inl rfl))
  k

/-- The last point's stretch: the normalised partial result, exchanged along `y` and then along `x`. -/
def tailProg (i : grid0.Coords) (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole) (arg6 : Memref sig .tc .vmem S8x4x512x128 .f32) (harg6 : arg6.IsWhole) (arg7 : Memref sig .tc .vmem S8x4x512x128 .f32) (harg7 : arg7.IsWhole) (arg8 : DmaSems sig S2x8) (arg9 : Memref sig .tc .vmem S4x32x1024 .f32) (harg9 : arg9.IsWhole) (arg10 : Memref sig .tc .vmem S4x32x8 .f32) (harg10 : arg10.IsWhole) (arg11 : Memref sig .tc .vmem S4x32x8 .f32) (harg11 : arg11.IsWhole) (arg12 : Memref sig .tc .vmem S4x32x1024 .bf16) (harg12 : arg12.IsWhole) (arg13 : Memref sig .tc .vmem S4x32x1024 .bf16) (harg13 : arg13.IsWhole) (arg14 : Memref sig .tc .vmem S4x32x8 .f32) (harg14 : arg14.IsWhole) (arg15 : Memref sig .tc .vmem S4x32x8 .f32) (harg15 : arg15.IsWhole) (arg16 : Memref sig .tc .vmem S4x32x1024 .bf16) (harg16 : arg16.IsWhole) (arg17 : Memref sig .tc .vmem S4x32x1024 .bf16) (harg17 : arg17.IsWhole) (arg18 : Memref sig .tc .vmem S4x32x8 .f32) (harg18 : arg18.IsWhole) (arg19 : Memref sig .tc .vmem S4x32x8 .f32) (harg19 : arg19.IsWhole) (arg20 : DmaSems sig S4) (arg21 : DmaSems sig S4) (d0 : Dev nD) (k0_h2 : k0_cond2 i = 1#1) :
    Prog (TpuEff nD τ sig (Elt F) Λ₀ .tc) PUnit := do
  let v0 : BitVec 32 := Dev.word d0
  let v1 : BitVec 32 := Scalar.divsi v0 2#32
  let v2 : BitVec 32 := Scalar.remsi v1 2#32
  let v3 : BitVec 32 := Dev.word d0
  let v4 : BitVec 32 := Scalar.divsi v3 1#32
  let v5 : BitVec 32 := Scalar.remsi v4 2#32
  let v6 : BitVec 32 := Scalar.subi 1#32 v5
  let v7 : BitVec 32 := Scalar.subi 1#32 v2
  let v526 : Vec F S4x32x128 .f32 ← k0_part1 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21
  let v554 : FVec F S4x32x128 .bf16 ← k0_part2 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v526
  let ⟨v581, c0_i32_667⟩ : Σ' (v581 : BitVec 32), BitVec 32 ← k0_part3 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 d0 v2 v6 k0_h2 v554
  let ⟨v606, v607, v609⟩ : Σ' (v606 : FVec F S4x32x128 .f32) (v607 : Vec F S4x32x1 .f32), FVec F S4x32x128 .f32 ← k0_part4 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 d0 v2 v6 k0_h2 v581 c0_i32_667
  let ⟨v637, v639, v644, v646, v647⟩ : Σ' (v637 : FVec F S4x32x128 .f32) (v639 : FVec F S4x32x1 .f32) (v644 : FVec F S4x32x1 .f32) (v646 : FVec F S4x32x128 .f32), FVec F S4x32x128 .f32 ← k0_part5 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v606 v607 v609
  let ⟨v681, v682⟩ : Σ' (v681 : FVec F S4x32x1 .f32), FVec F S4x32x128 .bf16 ← k0_part6 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v637 v639 v644 v646 v647
  k0_part7 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v681 v682
  let ⟨v746, v747, v749⟩ : Σ' (v746 : FVec F S4x32x128 .f32) (v747 : Vec F S4x32x1 .f32), FVec F S4x32x128 .f32 ← k0_part8 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21
  let ⟨v777, v779, v784, v786, v787⟩ : Σ' (v777 : FVec F S4x32x128 .f32) (v779 : FVec F S4x32x1 .f32) (v784 : FVec F S4x32x1 .f32) (v786 : FVec F S4x32x128 .f32), FVec F S4x32x128 .f32 ← k0_part9 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v746 v747 v749
  let ⟨v821, v822⟩ : Σ' (v821 : FVec F S4x32x1 .f32), FVec F S4x32x128 .bf16 ← k0_part10 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v777 v779 v784 v786 v787
  k0_part11 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 d0 v5 v7 k0_h2 v821 v822
  let ⟨v882, v883⟩ : Σ' (v882 : FVec F S4x32x128 .f32), Vec F S4x32x1 .f32 ← k0_part12 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v5 v7
  let v919 : FVec F S4x32x128 .f32 ← k0_part13 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v882 v883
  let ⟨v942, v945, v949, v951⟩ : Σ' (v942 : FVec F S4x32x128 .f32) (v945 : FVec F S4x32x128 .f32) (v949 : FVec F S4x32x1 .f32), FVec F S4x32x1 .f32 ← k0_part14 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v919
  let ⟨v982, v983⟩ : Σ' (v982 : FVec F S4x32x128 .f32), Vec F S4x32x1 .f32 ← k0_part15 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v942 v945 v949 v951
  let v1019 : FVec F S4x32x128 .f32 ← k0_part16 i arg1 harg1 arg2 harg2 arg3 harg3 arg4 harg4 arg5 harg5 arg6 harg6 arg7 harg7 arg8 arg9 harg9 arg10 harg10 arg11 harg11 arg12 harg12 arg13 harg13 arg14 harg14 arg15 harg15 arg16 harg16 arg17 harg17 arg18 harg18 arg19 harg19 arg20 arg21 v982 v983
  Prog.lift (.store arg5 (Rect.unit (s := S4x32x1024) ![0, 0, 896] S4x32x128.size inb_S4x32x1024_S4x32x128_0_0_896) v1019 Finset.univ (View.stores_vmem_bits_univ h_S4x32x128 rfl) (.inl rfl))
  pure ⟨⟩

/-- The body over its staged operands, with the kernel's own scratch buffers. -/
abbrev bodyAt (i : grid0.Coords) (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole) : Prog (TpuEff nD τ sig (Elt F) Λ₀ .tc) PUnit :=
  cc0_body (F := F) i arg1 harg1 arg2 harg2 arg3 harg3 arg4 harg4 arg5 harg5 (Memref.whole cc0_scratch0) (Memref.isWhole_whole _) (Memref.whole cc0_scratch1) (Memref.isWhole_whole _) cc0_scratch2 (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15

abbrev coreAt (i : grid0.Coords) (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole) (k : Prog (TpuEff nD τ sig (Elt F) Λ₀ .tc) PUnit) : Prog (TpuEff nD τ sig (Elt F) Λ₀ .tc) PUnit :=
  coreProg (F := F) i arg1 harg1 arg2 harg2 arg3 harg3 arg4 harg4 arg5 harg5 (Memref.whole cc0_scratch0) (Memref.isWhole_whole _) (Memref.whole cc0_scratch1) (Memref.isWhole_whole _) cc0_scratch2 (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 k
abbrev initAt (i : grid0.Coords) (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole) (d0 : Dev nD) (h : k0_cond1 i = 1#1) : Prog (TpuEff nD τ sig (Elt F) Λ₀ .tc) PUnit :=
  initProg (F := F) i arg1 harg1 arg2 harg2 arg3 harg3 arg4 harg4 arg5 harg5 (Memref.whole cc0_scratch0) (Memref.isWhole_whole _) (Memref.whole cc0_scratch1) (Memref.isWhole_whole _) cc0_scratch2 (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 d0 h
abbrev tailAt (i : grid0.Coords) (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole) (d0 : Dev nD) (h : k0_cond2 i = 1#1) : Prog (TpuEff nD τ sig (Elt F) Λ₀ .tc) PUnit :=
  tailProg (F := F) i arg1 harg1 arg2 harg2 arg3 harg3 arg4 harg4 arg5 harg5 (Memref.whole cc0_scratch0) (Memref.isWhole_whole _) (Memref.whole cc0_scratch1) (Memref.isWhole_whole _) cc0_scratch2 (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 d0 h

set_option maxRecDepth 65536 in
/-- The body at the first point. -/
theorem bodyAt_first (i : grid0.Coords) (h1 : k0_cond1 i = 1#1) (h2 : ¬ k0_cond2 i = 1#1) (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole) :
    bodyAt (F := F) i arg1 harg1 arg2 harg2 arg3 harg3 arg4 harg4 arg5 harg5 = .op .deviceId fun d0 => (initAt i arg1 harg1 arg2 harg2 arg3 harg3 arg4 harg4 arg5 harg5 d0 h1).bind fun _ => coreAt i arg1 harg1 arg2 harg2 arg3 harg3 arg4 harg4 arg5 harg5 (pure ⟨⟩) := by
  unfold bodyAt
  rw [cc0_body_eq_skeleton]
  unfold cc0_body_skel
  rw [k0_part17_eq_skeleton]
  unfold k0_part17_skel
  simp only [dif_pos h1, dif_neg h2]
  rfl

set_option maxRecDepth 65536 in
/-- The body at a middle point. -/
theorem bodyAt_mid (i : grid0.Coords) (h1 : ¬ k0_cond1 i = 1#1) (h2 : ¬ k0_cond2 i = 1#1) (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole) :
    bodyAt (F := F) i arg1 harg1 arg2 harg2 arg3 harg3 arg4 harg4 arg5 harg5 = .op .deviceId fun d0 => coreAt i arg1 harg1 arg2 harg2 arg3 harg3 arg4 harg4 arg5 harg5 (pure ⟨⟩) := by
  unfold bodyAt
  rw [cc0_body_eq_skeleton]
  unfold cc0_body_skel
  rw [k0_part17_eq_skeleton]
  unfold k0_part17_skel
  simp only [dif_neg h1, dif_neg h2]
  rfl

set_option maxRecDepth 65536 in
/-- The body at the last point. -/
theorem bodyAt_last (i : grid0.Coords) (h1 : ¬ k0_cond1 i = 1#1) (h2 : k0_cond2 i = 1#1) (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole) :
    bodyAt (F := F) i arg1 harg1 arg2 harg2 arg3 harg3 arg4 harg4 arg5 harg5 = .op .deviceId fun d0 => coreAt i arg1 harg1 arg2 harg2 arg3 harg3 arg4 harg4 arg5 harg5 ((tailAt i arg1 harg1 arg2 harg2 arg3 harg3 arg4 harg4 arg5 harg5 d0 h2).bind fun _ => pure ⟨⟩) := by
  unfold bodyAt
  rw [cc0_body_eq_skeleton]
  unfold cc0_body_skel
  rw [k0_part17_eq_skeleton]
  unfold k0_part17_skel
  simp only [dif_neg h1, dif_pos h2]
  rfl

end Cert.KProof

end
-- ==== Proof.Core.lean ====
/- One run of the stretch every grid point shares: the sixteen copies and the eight heads. -/
module

public import proofs.«01_k».proof.Proof.Stretch

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

/-- A buffer held whole through a memref. -/
abbrev held {sp : Space} {sh : Shape} {e : EltTy} (c : Dev nD) (m : Memref sig .tc sp sh e)
    (f : Buf (Elt F) (m.view.loc (c : Thread nD τ))) : sProp 𝕄 :=
  m.view.loc (c : Thread nD τ) ↦{fullShare} f

/-- The counters of the local copies' sixteen semaphores, all at zero. -/
def copySems (c : Dev nD) : sProp 𝕄 :=
  iprop(semVal ((c : Thread nD τ), SemLoc.dma (6 : DmaSem sig)) 0
    ∗ semVal ((c : Thread nD τ), SemLoc.dma (7 : DmaSem sig)) 0
    ∗ semVal ((c : Thread nD τ), SemLoc.dma (8 : DmaSem sig)) 0
    ∗ semVal ((c : Thread nD τ), SemLoc.dma (9 : DmaSem sig)) 0
    ∗ semVal ((c : Thread nD τ), SemLoc.dma (10 : DmaSem sig)) 0
    ∗ semVal ((c : Thread nD τ), SemLoc.dma (11 : DmaSem sig)) 0
    ∗ semVal ((c : Thread nD τ), SemLoc.dma (12 : DmaSem sig)) 0
    ∗ semVal ((c : Thread nD τ), SemLoc.dma (13 : DmaSem sig)) 0
    ∗ semVal ((c : Thread nD τ), SemLoc.dma (14 : DmaSem sig)) 0
    ∗ semVal ((c : Thread nD τ), SemLoc.dma (15 : DmaSem sig)) 0
    ∗ semVal ((c : Thread nD τ), SemLoc.dma (16 : DmaSem sig)) 0
    ∗ semVal ((c : Thread nD τ), SemLoc.dma (17 : DmaSem sig)) 0
    ∗ semVal ((c : Thread nD τ), SemLoc.dma (18 : DmaSem sig)) 0
    ∗ semVal ((c : Thread nD τ), SemLoc.dma (19 : DmaSem sig)) 0
    ∗ semVal ((c : Thread nD τ), SemLoc.dma (20 : DmaSem sig)) 0
    ∗ semVal ((c : Thread nD τ), SemLoc.dma (21 : DmaSem sig)) 0)

set_option sl_exec.dmaWindow true in set_option sl_exec.dmaWindowSet true in
set_option sl_exec.squeezeSlice true in
/-- The run of the stretch, with the contents it leaves: the staged keys and values, the three running sums. -/
def coreRaw (c : Dev nD) (i : grid0.Coords)
  (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole)
  (f2 : Buf (Elt F) (arg2.view.loc (c : Thread nD τ))) (f3 : Buf (Elt F) (arg3.view.loc (c : Thread nD τ))) (f4 : Buf (Elt F) (arg4.view.loc (c : Thread nD τ)))
  (f6 : Buf (Elt F) ((Memref.whole cc0_scratch0).view.loc (c : Thread nD τ))) (f7 : Buf (Elt F) ((Memref.whole cc0_scratch1).view.loc (c : Thread nD τ))) (g3 : Buf (Elt F) ((Memref.whole cc0_scratch3).view.loc (c : Thread nD τ))) (g4 : Buf (Elt F) ((Memref.whole cc0_scratch4).view.loc (c : Thread nD τ))) (g5 : Buf (Elt F) ((Memref.whole cc0_scratch5).view.loc (c : Thread nD τ))) :
  { v : (Buf (Elt F) ((Memref.whole cc0_scratch0).view.loc (c : Thread nD τ))) × (Buf (Elt F) ((Memref.whole cc0_scratch1).view.loc (c : Thread nD τ))) × (Buf (Elt F) ((Memref.whole cc0_scratch3).view.loc (c : Thread nD τ))) × (Buf (Elt F) ((Memref.whole cc0_scratch4).view.loc (c : Thread nD τ))) × (Buf (Elt F) ((Memref.whole cc0_scratch5).view.loc (c : Thread nD τ))) //
    ∀ (O : CellTallies nD τ sig Unit) (W : Waits sig Unit)
      (Fct : sProp 𝕄) (_hmw : ∀ s : DmaSem sig, s.val < 22 → (Fct ⊢ MayWait (c : Thread nD τ) (.dma s) () O))
      (k : Prog (TpuEff nD τ sig (Elt F) Λ₀ .tc) PUnit) (Q : PUnit → sProp 𝕄),
      iprop((held c arg2 f2 ∗ held c arg3 f3 ∗ held c arg4 f4 ∗ held c (Memref.whole cc0_scratch0) f6 ∗ held c (Memref.whole cc0_scratch1) f7
          ∗ held c (Memref.whole cc0_scratch3) g3 ∗ held c (Memref.whole cc0_scratch4) g4 ∗ held c (Memref.whole cc0_scratch5) g5 ∗ copySems c) ∗ owes (c : Thread nD τ) O W ∗ Fct
          ∗ (held c arg2 f2 -∗ held c arg3 f3 -∗ held c arg4 f4 -∗ held c (Memref.whole cc0_scratch0) v.1 -∗ held c (Memref.whole cc0_scratch1) v.2.1
              -∗ held c (Memref.whole cc0_scratch3) v.2.2.1 -∗ held c (Memref.whole cc0_scratch4) v.2.2.2.1 -∗ held c (Memref.whole cc0_scratch5) v.2.2.2.2 -∗ copySems c
              -∗ (∃ W', owes (c : Thread nD τ) O W') -∗ Fct -∗ wp frame (wpE (defs₀ (F := F)) Variants.none (c : Thread nD τ) none) Set.univ k Q))
        ⊢ wp frame (wpE (defs₀ (F := F)) Variants.none (c : Thread nD τ) none) Set.univ
            (coreAt i arg1 harg1 arg2 harg2 arg3 harg3 arg4 harg4 arg5 harg5 k) Q } := by
  refine ⟨⟨?_, ?_, ?_, ?_, ?_⟩, ?_⟩
  case refine_6 =>
    intro O W Fct hmw k Q
    unfold copySems coreAt coreProg
    iintro ⟨⟨H2, H3, H4, H6, H7, G3, G4, G5, Hs0, Hs1, Hs2, Hs3, Hs4, Hs5, Hs6, Hs7, Hs8, Hs9, Hs10, Hs11, Hs12, Hs13, Hs14, Hs15⟩, HO, HF, Hk⟩
    sl_exec_parts
    iapply Hk $$ H2 H3 H4 H6 H7 G3 G4 G5 [Hs0 Hs1 Hs2 Hs3 Hs4 Hs5 Hs6 Hs7 Hs8 Hs9 Hs10 Hs11 Hs12 Hs13 Hs14 Hs15] [HO] HF
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      iexact Hs15
    · iexists _; iexact HO

end Cert.KProof

end
-- ==== Proof.Sched.lean ====
/- The exchange's protocol: who pays which semaphore of which device, with what, and in which order waits are allowed. -/
module

public import proofs.«01_k».proof.Proof.Core

@[expose] public section

set_option maxRecDepth 4000

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the exchange's rounds live in the ghost state. -/
def ER : Emb (URounds (GSem nD τ sig) Bool) (MT nD τ sig Unit (Elt F) ℕ UU ℕ) :=
  (Emb.inl : Emb (URounds (GSem nD τ sig) Bool) (URounds (GSem nD τ sig) Bool × Counters)).trans embR

instance ER_landsIn : (ER (F := F)).LandsIn (upEmb : UEmb _ (MT nD τ sig Unit (Elt F) ℕ UU ℕ)) := by
  unfold ER; infer_instance

/-! ## The mesh -/

/-- The device holding the same shard and the other half of it. -/
def nbrY (c : Dev nD) : Dev nD := ⟨(2 * (c.val / 2) + 1) - c.val % 2, by have := c.isLt; simp only [nD] at *; omega⟩
/-- The device holding the same half of the other shard. -/
def nbrX (c : Dev nD) : Dev nD := ⟨(c.val % 2 + 2) - 2 * (c.val / 2), by have := c.isLt; simp only [nD] at *; omega⟩

theorem nbrY_nbrY (c : Dev nD) : nbrY (nbrY c) = c := by revert c; decide
theorem nbrX_nbrX (c : Dev nD) : nbrX (nbrX c) = c := by revert c; decide
def swapY : Dev nD ≃ Dev nD := ⟨nbrY, nbrY, nbrY_nbrY, nbrY_nbrY⟩
def swapX : Dev nD ≃ Dev nD := ⟨nbrX, nbrX, nbrX_nbrX, nbrX_nbrX⟩

/-! ## Cells -/

abbrev barCell (c : Dev nD) : GSem nD τ sig := ((c : Thread nD τ), .reg barrier0)
/-- The cell of a device's DMA semaphore. -/
abbrev cell (s : DmaSem sig) (c : Dev nD) : GSem nD τ sig := ((c : Thread nD τ), .dma s)

/-- The credit of a copy of one of the two outputs' buffers, and of one of the two logarithms'. -/
abbrev NZ : ℕ := (Memref.whole cc0_scratch7 : Memref sig .tc .vmem S4x32x1024 .bf16).view.dmaCredit
abbrev NL : ℕ := (Memref.whole cc0_scratch9 : Memref sig .tc .vmem S4x32x8 .f32).view.dmaCredit
theorem NZ_pos : 0 < NZ := View.dmaCredit_pos _ (by decide)
theorem NL_pos : 0 < NL := View.dmaCredit_pos _ (by decide)

/-- What each device sends in the two exchanges. -/
structure Vals (F : FTy → Type) [FloatOps F] where
  z1 : Dev nD → FVec F S4x32x1024 .bf16
  l1 : Dev nD → FVec F S4x32x8 .f32
  z2 : Dev nD → FVec F S4x32x1024 .bf16
  l2 : Dev nD → FVec F S4x32x8 .f32

/-- A neighbour's signal along `y` hands over its landing buffers of the first exchange. -/
def barPayY (c : Dev nD) : sProp 𝕄 :=
  iprop((∃ f, held c (Memref.whole cc0_scratch7) f) ∗ (∃ f, held c (Memref.whole cc0_scratch9) f)
    ∗ reached ER (cell 26 c) 0 ∗ reached ER (cell 27 c) 0)
/-- A neighbour's signal along `x` hands over its landing buffers of the second exchange. -/
def barPayX (c : Dev nD) : sProp 𝕄 :=
  iprop((∃ f, held c (Memref.whole cc0_scratch11) f) ∗ (∃ f, held c (Memref.whole cc0_scratch13) f)
    ∗ reached ER (cell 28 c) 0 ∗ reached ER (cell 29 c) 0)

/-- What comes with each DMA cell of the exchange. -/
def dmaPay (V : Vals F) (c : Dev nD) : ℕ → sProp 𝕄
  | 22 => held c (Memref.whole cc0_scratch6) (V.z1 c)
  | 23 => held c (Memref.whole cc0_scratch8) (V.l1 c)
  | 24 => held c (Memref.whole cc0_scratch10) (V.z2 c)
  | 25 => held c (Memref.whole cc0_scratch12) (V.l2 c)
  | 26 => held c (Memref.whole cc0_scratch7) (V.z1 (nbrY c))
  | 27 => held c (Memref.whole cc0_scratch9) (V.l1 (nbrY c))
  | 28 => held c (Memref.whole cc0_scratch11) (V.z2 (nbrX c))
  | 29 => held c (Memref.whole cc0_scratch13) (V.l2 (nbrX c))
  | _ => iprop(emp)

/-- What comes with each cell. -/
def pay (V : Vals F) (c : Dev nD) : SemLoc sig → Bool → sProp 𝕄
  | .reg _, false => barPayY (nbrY c)
  | .reg _, true => barPayX (nbrX c)
  | .dma s, _ => dmaPay V c s.val

/-- The duties of a cell's only round. -/
def dutyOf : SemLoc sig → Finset Bool
  | .reg _ => Finset.univ
  | .dma s => if 22 ≤ s.val then {false} else ∅

def dmaAmt : ℕ → ℕ
  | 22 => NZ
  | 24 => NZ
  | 26 => NZ
  | 28 => NZ
  | 23 => NL
  | 25 => NL
  | 27 => NL
  | 29 => NL
  | _ => 1

def amt : SemLoc sig → ℕ
  | .reg _ => 1
  | .dma s => dmaAmt s.val

theorem amt_pos (s : SemLoc sig) : 0 < amt s := by
  cases s with
  | reg _ => exact Nat.one_pos
  | dma s =>
    unfold amt dmaAmt
    dsimp only
    split <;> first | exact NZ_pos | exact NL_pos | exact Nat.one_pos

/-- The exchange: one round on every device's barrier, send and receive cells. -/
def sched (V : Vals F) : Rounds.Schedule (GSem nD τ sig) Bool 𝕄 where
  duties g r := if r = 0 ∧ g.1.2 = .tc then dutyOf g.2 else ∅
  unitless _ := False
  amount g _ _ := amt g.2
  payload g _ d := pay V g.1.1 g.2 d
  amount_pos g _ _ _ := amt_pos g.2

instance reached_storable (g : GSem nD τ sig) (r : ℕ) : BI.Storable (upEmb : UEmb _ 𝕄) (reached (ER (F := F)) g r) := by
  infer_instance

instance anyHeld_storable {sh : Shape} {e : EltTy} (c : Dev nD) (b : Memref sig .tc .vmem sh e) :
    BI.Storable (upEmb : UEmb _ 𝕄) (iprop(∃ f, held c b f) : sProp 𝕄) := by
  infer_instance

instance dmaPay_storable (V : Vals F) (c : Dev nD) (n : ℕ) : BI.Storable (upEmb : UEmb _ 𝕄) (dmaPay V c n) := by
  unfold dmaPay
  split <;> infer_instance

set_option synthInstance.maxHeartbeats 400000 in
instance barPayY_storable (c : Dev nD) : BI.Storable (upEmb : UEmb _ 𝕄) (barPayY (F := F) c) := by
  unfold barPayY; infer_instance

set_option synthInstance.maxHeartbeats 400000 in
instance barPayX_storable (c : Dev nD) : BI.Storable (upEmb : UEmb _ 𝕄) (barPayX (F := F) c) := by
  unfold barPayX; infer_instance

instance sched_payload_storable (V : Vals F) (g : GSem nD τ sig) (r : ℕ) (d : Bool) :
    BI.Storable (upEmb : UEmb _ 𝕄) ((sched V).payload g r d) := by
  show BI.Storable upEmb (pay V g.1.1 g.2 d)
  cases g.2 with
  | reg s =>
    cases d
    · show BI.Storable upEmb (barPayY (nbrY g.1.1))
      infer_instance
    · show BI.Storable upEmb (barPayX (nbrX g.1.1))
      infer_instance
  | dma s =>
    show BI.Storable upEmb (dmaPay V g.1.1 s.val)
    infer_instance

section Tables

variable (V : Vals F) (c : Dev nD)

theorem duties_bar : (sched V).duties (barCell c) 0 = Finset.univ := by dsimp only [sched]; exact if_pos ⟨rfl, rfl⟩
theorem duties_dma (s : DmaSem sig) (hs : 22 ≤ s.val) : (sched V).duties (cell s c) 0 = {false} := by
  dsimp only [sched]; rw [if_pos ⟨rfl, rfl⟩]; exact if_pos hs
theorem duties_later (g : GSem nD τ sig) : ∀ r, 1 ≤ r → (sched V).duties g r = ∅ :=
  fun r hr => by dsimp only [sched]; exact if_neg (fun h => by omega)

theorem expect_bar : (sched V).expect (barCell c) 0 = 2 := by
  unfold Schedule.expect Schedule.amountOf; rw [duties_bar]; rfl
theorem expect_dma (s : DmaSem sig) (hs : 22 ≤ s.val) : (sched V).expect (cell s c) 0 = dmaAmt s.val := by
  unfold Schedule.expect Schedule.amountOf; rw [duties_dma V c s hs, Finset.sum_singleton]; rfl

theorem rest_bar : bigSep ((sched V).duties (barCell c) 0 \ ∅) (fun u => (sched V).payload (barCell c) 0 u)
    ⊢ iprop(barPayY (nbrY c) ∗ barPayX (nbrX c)) := by
  rw [Finset.sdiff_empty, duties_bar, show (Finset.univ : Finset Bool) = {false, true} from by decide,
    bigSep_insert (by decide), bigSep_singleton]
  exact BI.Entails.refl _
theorem rest_dma (s : DmaSem sig) (hs : 22 ≤ s.val) :
    bigSep ((sched V).duties (cell s c) 0 \ ∅) (fun u => (sched V).payload (cell s c) 0 u) = dmaPay V c s.val := by
  rw [Finset.sdiff_empty, duties_dma V c s hs, bigSep_singleton]; rfl

end Tables

/-! ## What is owed, and the levels -/

/-- What a device owes its second exchange's partner, -/
def owedX (c : Dev nD) : CellTallies nD τ sig Unit :=
  0 + tallyAt (cell 29 (nbrX c)) () NL + tallyAt (cell 28 (nbrX c)) () NZ
/-- what it owes both partners between the barrier and the first exchange, -/
def owedMid (c : Dev nD) : CellTallies nD τ sig Unit :=
  owedX c + tallyAt (cell 27 (nbrY c)) () NL + tallyAt (cell 26 (nbrY c)) () NZ
/-- and at launch. -/
def O₀ (c : Dev nD) : CellTallies nD τ sig Unit :=
  owedMid c + tallyAt (barCell (nbrX c)) () 1 + tallyAt (barCell (nbrY c)) () 1

def L (g : GSem nD τ sig) : Finset Unit := if g.1.2 = .tc then {()} else ∅

def lvOf : SemLoc sig → ℕ
  | .reg _ => 1
  | .dma s => if s.val < 26 then 0 else if s.val < 28 then 2 else 3
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

/-- Everything owed sits on a TensorCore's cell above level `n`. -/
def Above (n : ℕ) (O : CellTallies nD τ sig Unit) : Prop := ∀ g u, 0 < O g u → g.1.2 = .tc ∧ n < lvOf g.2

theorem Above.zero (n : ℕ) : Above n 0 := fun _ _ h => absurd h (Nat.lt_irrefl 0)
theorem Above.add {n : ℕ} {O O' : CellTallies nD τ sig Unit} (h : Above n O) (h' : Above n O') : Above n (O + O') := fun g u hg => by
  rcases Nat.eq_zero_or_pos (O g u) with h0 | h0
  · exact h' g u (by
      have : (O + O') g u = O g u + O' g u := rfl
      omega)
  · exact h g u h0
theorem Above.tally {n : ℕ} (c : Dev nD) (s : SemLoc sig) (k : ℕ) (h : n < lvOf s) :
    Above n (tallyAt ((c : Thread nD τ), s) () k) := fun g u hg => by
  rw [tallyAt_apply] at hg
  by_cases hc : g = ((c : Thread nD τ), s) ∧ u = ()
  · rw [hc.1]; exact ⟨rfl, h⟩
  · rw [if_neg hc] at hg; exact absurd hg (Nat.lt_irrefl 0)

theorem mayWait (c : Dev nD) (s : SemLoc sig) {O : CellTallies nD τ sig Unit} (hO : Above (lvOf s) O) :
    (levAts L lv : sProp 𝕄) ⊢ MayWait (c : Thread nD τ) s () O :=
  MayOwe.of_cut (L := L) (lev := lv) (lvOf s) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_refl _)
    (fun g u hg => (hO g u hg).2)

theorem above_owedX (c : Dev nD) (n : ℕ) (h : n < 3) : Above n (owedX c) :=
  ((Above.zero n).add (Above.tally _ (.dma 29) _ h)).add (Above.tally _ (.dma 28) _ h)
theorem above_owedMid (c : Dev nD) (n : ℕ) (h : n < 2) : Above n (owedMid c) :=
  ((above_owedX c n (by omega)).add (Above.tally _ (.dma 27) _ h)).add (Above.tally _ (.dma 26) _ h)
theorem above_O₀ (c : Dev nD) : Above 0 (O₀ c) :=
  ((above_owedMid c 0 (by omega)).add (Above.tally _ (.reg barrier0) _ Nat.one_pos)).add (Above.tally _ (.reg barrier0) _ Nat.one_pos)

/-! ## The steps by hand -/

section Steps

variable (V : Vals F)

theorem close (κ : ℕ) (g : GSem nD τ sig) :
    iprop(cellInv ER (sched V) κ g ∗ atPos ER g (0 + 1) ∅ 0) ⊢ (|={Set.univ}=> semVal g 0 : sProp 𝕄) :=
  Rounds.cell_close ER (sched V) (Set.mem_univ κ) id (duties_later V g)

/-- One copy of the exchange: the source comes with the sender's cell, the landing buffer rewritten with the receiver's. -/
theorem send_step {sh : Shape} {e : EltTy} {α : Type} (c c' c'' : Dev nD) (hc : c'' = c') (src dst : Memref sig .tc .vmem sh e)
    (hs : src.view.set = Finset.univ) (hd : dst.view.set = Finset.univ) (sS sS' sR sR' : DmaSem sig) (hsS : sS' = sS) (hsR : sR' = sR)
    (fs : Buf (Elt F) (src.view.loc (c : Thread nD τ))) (fd w : Buf (Elt F) (dst.view.loc (c' : Thread nD τ)))
    (hw : dst.view.write (Elt F) fd (src.view.read (Elt F) fs) Finset.univ = w) (κ₁ κ₂ : ℕ)
    (hS : 22 ≤ sS.val) (hR : 22 ≤ sR.val) (N : ℕ) (hN : dst.view.dmaCredit = N) (hN₁ : dmaAmt sS.val = N) (hN₂ : dmaAmt sR.val = N)
    (hp₁ : held c src fs = dmaPay V c sS.val) (hp₂ : held c' dst w = dmaPay V c' sR.val)
    (O : CellTallies nD τ sig Unit) (W : Waits sig Unit)
    {hsrc : src.view.WordExact} {hdst : dst.view.WordExact} {hsc : dst.view.ref.isScScratch = false}
    {hsem : DmaTarget.Typed .vmem (.dma sR') (.remote (c'' : Thread nD τ) dst (.dma sS') hsc)}
    (k : PUnit → Prog (TpuEff nD τ sig (Elt F) Λ₀ .tc) α) (Q : α → sProp 𝕄) :
    iprop(cellInv ER (sched V) κ₁ (cell sS c) ∗ cellInv ER (sched V) κ₂ (cell sR c') ∗ held c src fs ∗ held c' dst fd
        ∗ owes (c : Thread nD τ) (O + tallyAt (cell sR c') () N) W
        ∗ dutyTok ER (cell sS c) 0 false ∗ reached ER (cell sS c) 0 ∗ dutyTok ER (cell sR c') 0 false ∗ reached ER (cell sR c') 0
        ∗ (cred (tallyAt (cell sS c) () N) -∗ owes (c : Thread nD τ) O W -∗
            wp frame (wpE (defs₀ (F := F)) Variants.none (c : Thread nD τ) none) Set.univ (k ⟨⟩) Q))
      ⊢ wp frame (wpE (defs₀ (F := F)) Variants.none (c : Thread nD τ) none) Set.univ
          (.op (.enqueueDma src (.remote (c'' : Thread nD τ) dst (.dma sS') hsc) (.dma sR') hsrc hdst hsem) k) Q := by
  subst hc hsS hsR
  iintro ⟨#HI1, #HI2, Hs, Hd, HO, Ht1, #Hr1, Ht2, #Hr2, Hk⟩
  iapply (Rounds.wp_send_pointsTo Variants.none ER (sched V) (c : Thread nD τ) none (c' := (c'' : Thread nD τ)) (src := src) (dst := dst)
      (sS := .dma sS') (sem := .dma sR') (q := fullShare) (fs := fs) (κ₁ := κ₁) (κ₂ := κ₂)
      (r₁ := 0) (r₂ := 0) (d₁ := false) (d₂ := false) (fd := fd)
      (by rw [duties_dma V c sS' hS]; exact Finset.mem_singleton_self _) (by rw [duties_dma V c'' sR' hR]; exact Finset.mem_singleton_self _)
      () () N hN hN₁ hN₂ O rfl (W := W)
      (by rw [hs]; exact Entails.of_eq hp₁)
      (by rw [hd, hw]; exact Entails.of_eq hp₂)) $$ [Hs Hd HO Ht1 Ht2]
  · isplitr; · iexact HI1
    isplitr; · iexact HI2
    isplitl [Hs]; · rw [hs]; iexact Hs
    isplitl [Hd]; · rw [hd]; iexact Hd
    isplitl [HO]; · iexact HO
    isplitl [Ht1]; · iexact Ht1
    isplitr; · iexact Hr1
    isplitl [Ht2]; · iexact Ht2
    iexact Hr2
  iintro ⟨Hc, HO⟩
  iapply Hk $$ Hc HO

/-- One wait of the exchange: what comes with the cell is handed over. -/
theorem wait_step {sh : Shape} {e : EltTy} {α : Type} (c : Dev nD) (src dst : Memref sig .tc .vmem sh e) (s s' : DmaSem sig) (hs : s' = s) (κ : ℕ)
    (hS : 22 ≤ s.val) (N : ℕ) (hN : dst.view.dmaCredit = N) (hN₁ : dmaAmt s.val = N) (O : CellTallies nD τ sig Unit) (W : Waits sig Unit)
    (hO : Above (lvOf (.dma s)) O)
    {hsrc : src.view.WordExact} {hdst : dst.view.WordExact}
    (k : PUnit → Prog (TpuEff nD τ sig (Elt F) Λ₀ .tc) α) (Q : α → sProp 𝕄) :
    iprop(cellInv ER (sched V) κ (cell s c) ∗ cred (tallyAt (cell s c) () N) ∗ owes (c : Thread nD τ) O W ∗ levAts L lv
        ∗ atPos ER (cell s c) 0 ∅ 0
        ∗ (dmaPay V c s.val -∗ owes (c : Thread nD τ) O (insert (SemLoc.dma s, ()) W) -∗ atPos ER (cell s c) (0 + 1) ∅ 0 -∗
            wp frame (wpE (defs₀ (F := F)) Variants.none (c : Thread nD τ) none) Set.univ (k ⟨⟩) Q))
      ⊢ wp frame (wpE (defs₀ (F := F)) Variants.none (c : Thread nD τ) none) Set.univ
          (.op (.waitDma2 s' src dst hsrc hdst) k) Q := by
  subst hN hs
  iintro ⟨#HI, Hc, HO, #Hlev, Hat, Hk⟩
  iapply (Rounds.wp_wait_rest_token Variants.none ER (sched V) (c : Thread nD τ) none (κ := κ)
      (wpE_waitDma2_eq (src := src) (dst := dst) Variants.none (c : Thread nD τ) none Set.univ) (Set.mem_univ _) () (O := O) (W := W) (R := 0) (m := 0) (T := ∅)
      ((Nat.zero_add _).trans (hN₁.symm.trans (expect_dma V c s' hS).symm))) $$ [Hc HO Hat]
  · isplitr; · iexact HI
    isplitl [Hc]; · iexact Hc
    isplitl [HO]; · iexact HO
    isplitr; · iapply (mayWait c (.dma s') hO); iexact Hlev
    iexact Hat
  iintro ⟨HO, Hat, -, Hp⟩
  ihave Hp := (Entails.of_eq (rest_dma V c s' hS)) $$ Hp
  iapply Hk $$ Hp HO Hat

/-- A buffer held at contents with a name. -/
theorem named {sp : Space} {sh : Shape} {e : EltTy} (c : Dev nD) (b : Memref sig .tc sp sh e) (w : Buf (Elt F) (b.view.loc (c : Thread nD τ))) :
    iprop(∃ f, held c b f ∗ ⌜f = w⌝) ⊢ held c b w := by
  iintro ⟨%f, H, %h⟩
  subst h
  iexact H

end Steps

end Cert.KProof

end
-- ==== Proof.Lanes.lean ====
/- How the copies and the stores of one head read back: a head's slice of a staged block, a head's lanes of a buffer. -/
module

public import proofs.«01_k».proof.Proof.Base
public import Idealize.ShloMosaic.Lib.ValueIdx
public import Idealize.ShloMosaic.Lib.WritesUnit
public import Idealize.ShloMosaic.Lib.Pointwise.Reshape

@[expose] public section

noncomputable section

namespace Cert.KProof

open Cert.KernelIdeal Cert.KernelIdeal.Gen
open Idealize.ShloMosaic Idealize.ShloMosaic.TcCoe

variable {Val : EltTy → Type} {sp : Space}

theorem reshape_head (h : S4x512x128.numel = S1x4x512x128.numel) (b : Fin 4) (j : Fin 512) (d : Fin 128) :
    Shape.reshapeEquiv h (ix3 b j d) = (ix4 (0 : Fin 1) b j d : S1x4x512x128.Idx) :=
  Shape.reshapeEquiv_eq_of_rowMajor h (by
    rw [Shape.rowMajor_val_four, Shape.rowMajor_val_three]
    show (((0 : ℕ) * 4 + b.val) * 512 + j.val) * 128 + d.val = (b.val * 512 + j.val) * 128 + d.val
    omega)

theorem reshape_src (h : S4x512x128.numel = S4x512x1x128.numel) (b : Fin 4) (j : Fin 512) (d : Fin 128) :
    Shape.reshapeEquiv h (ix3 b j d) = (ix4 b j (0 : Fin 1) d : S4x512x1x128.Idx) :=
  Shape.reshapeEquiv_eq_of_rowMajor h (by
    rw [Shape.rowMajor_val_four, Shape.rowMajor_val_three]
    show ((b.val * 512 + j.val) * 1 + 0) * 128 + d.val = (b.val * 512 + j.val) * 128 + d.val
    omega)

/-- Head `h` of a block of keys (or values) read through the view a copy reads it by. -/
theorem read_src (m : Memref sig .tc sp S4x512x8x128 .f32) (f : m.view.ty.Contents Val) (h : ℕ) (hh : h < 8)
    (inb : ∀ a, (![0, 0, h, 0] : Fin 4 → ℕ) a + S4x512x1x128.size a ≤ S4x512x8x128.size a) (e1) (e2)
    (b : Fin 4) (j : Fin 512) (d : Fin 128) :
    ((m.slice (Rect.unit (s := S4x512x8x128) ![0, 0, h, 0] S4x512x1x128.size inb) e1).squeeze S4x512x128 e2).view.read Val f (ix3 b j d)
      = m.view.read Val f (ix4 b j ⟨h, hh⟩ d) := by
  rw [View.read_apply, View.read_apply]
  have : (Rect.unit (s := S4x512x8x128) ![0, 0, h, 0] S4x512x1x128.size inb).emb (ix4 b j (0 : Fin 1) d) = ix4 b j ⟨h, hh⟩ d := by
    funext a
    match a with
    | ⟨0, _⟩ => exact Fin.ext (show 0 + 1 * b.val = b.val by omega)
    | ⟨1, _⟩ => exact Fin.ext (show 0 + 1 * j.val = j.val by omega)
    | ⟨2, _⟩ => exact Fin.ext (show h + 1 * 0 = h by omega)
    | ⟨3, _⟩ => exact Fin.ext (show 0 + 1 * d.val = d.val by omega)
  exact congrArg (cast (congrArg Val m.view.elt_eq)) (congrArg f ((congrArg (fun x => m.view.emb ((Rect.unit (s := S4x512x8x128) ![0, 0, h, 0] S4x512x1x128.size inb).emb x))
    (reshape_src _ b j d)).trans (congrArg m.view.emb this)))

/-- One copy into head `h` of a staging buffer, read anywhere. -/
theorem read_stage (m : Memref sig .tc sp S8x4x512x128 .f32) (f : m.view.ty.Contents Val) (h : ℕ)
    (inb : ∀ a, (![h, 0, 0, 0] : Fin 4 → ℕ) a + S1x4x512x128.size a ≤ S8x4x512x128.size a) (e1) (e2)
    (X : S4x512x128.Idx → Val .f32) (h' : Fin 8) (b : Fin 4) (j : Fin 512) (d : Fin 128) :
    m.view.read Val (((m.slice (Rect.unit (s := S8x4x512x128) ![h, 0, 0, 0] S1x4x512x128.size inb) e1).squeeze S4x512x128 e2).view.write Val f X Finset.univ) (ix4 h' b j d)
      = if h'.val = h then X (ix3 b j d) else m.view.read Val f (ix4 h' b j d) := by
  have hemb : ∀ (b : Fin 4) (j : Fin 512) (d : Fin 128) (hlt : h < 8),
      ((m.slice (Rect.unit (s := S8x4x512x128) ![h, 0, 0, 0] S1x4x512x128.size inb) e1).squeeze S4x512x128 e2).view.emb (ix3 b j d)
        = m.view.emb (ix4 ⟨h, hlt⟩ b j d) := fun b j d hlt => by
    refine (congrArg (fun x => m.view.emb ((Rect.unit (s := S8x4x512x128) ![h, 0, 0, 0] S1x4x512x128.size inb).emb x))
      (reshape_head _ b j d)).trans ?_
    refine congrArg m.view.emb (funext fun a => ?_)
    match a with
    | ⟨0, _⟩ => exact Fin.ext (show h + 1 * 0 = h by omega)
    | ⟨1, _⟩ => exact Fin.ext (show 0 + 1 * b.val = b.val by omega)
    | ⟨2, _⟩ => exact Fin.ext (show 0 + 1 * j.val = j.val by omega)
    | ⟨3, _⟩ => exact Fin.ext (show 0 + 1 * d.val = d.val by omega)
  by_cases hx : h'.val = h
  · subst hx
    rw [if_pos rfl, View.read_apply, ← hemb b j d h'.isLt]
    exact View.read_write_of_mem (v := ((m.slice (Rect.unit (s := S8x4x512x128) ![h'.val, 0, 0, 0] S1x4x512x128.size inb) e1).squeeze S4x512x128 e2).view)
      f X (Finset.mem_univ _)
  · rw [if_neg hx, View.read_apply, View.read_apply, View.write_of_not_mem]
    intro hmem
    obtain ⟨x, -, hxe⟩ := Finset.mem_map.mp hmem
    have hlt : h < 8 := by have := inb 0; simp at this; have h1 : S1x4x512x128.size 0 = 1 := rfl; have h8 : S8x4x512x128.size 0 = 8 := rfl; omega
    rw [eq_ix3 x] at hxe
    have := m.view.emb.injective ((hemb _ _ _ hlt).symm.trans hxe)
    exact hx (congrArg Fin.val (congrFun this 0)).symm

end Cert.KProof

end
-- ==== Proof.Values.lean ====
/- What the shared stretch leaves in the running sums, as functions of the blocks and of the sums before. -/
module

public import proofs.«01_k».proof.Proof.Core
public import proofs.«01_k».proof.Proof.Lanes

@[expose] public section

noncomputable section

namespace Cert.KProof

open Cert.KernelIdeal Cert.KernelIdeal.Gen
open Idealize.ShloMosaic Idealize.ShloMosaic.TcCoe

variable {F : FTy → Type} [FloatOps F]

/-! ## One head -/

/-- Head `h`'s lanes of a value of all heads. -/
def lanes {β : Type} (x : S4x32x1024.Idx → β) (h : Fin 8) : S4x32x128.Idx → β :=
  fun ix => x (ix3 (ix 0) (ix 1) ⟨128 * h.val + (ix 2).val, by have : (ix 2).val < 128 := (ix 2).isLt; omega⟩)

/-- Head `h`'s column of a value of one number a head. -/
def col {β : Type} (x : S4x32x8.Idx → β) (h : Fin 8) : S4x32x1.Idx → β :=
  fun ix => x (ix3 (ix 0) (ix 1) h)

/-- Head `h` of a block of keys or values. -/
def keys {β : Type} (x : S4x512x8x128.Idx → β) (h : Fin 8) : S1x4x512x128.Idx → β :=
  fun ix => x (ix4 (ix 1) (ix 2) h (ix 3))

/-- Columns put side by side. -/
def ofCols {β : Type} (w : Fin 8 → S4x32x1.Idx → β) : S4x32x8.Idx → β :=
  fun ix => w (ix 2) (ix3 (ix 0) (ix 1) (0 : Fin 1))

/-- Lanes put side by side. -/
def ofLanes {β : Type} (w : Fin 8 → S4x32x128.Idx → β) : S4x32x1024.Idx → β :=
  fun ix => w ⟨(ix 2).val / 128, by have : (ix 2).val < 1024 := (ix 2).isLt; omega⟩
    (ix3 (ix 0) (ix 1) (⟨(ix 2).val % 128, Nat.mod_lt _ (by decide)⟩ : Fin 128))

/-- The running maximum after a block, of the query, the keys and the maximum before. -/
def headM (q : FVec F S4x32x128 .f32) (k : FVec F S1x4x512x128 .f32) (m : FVec F S4x32x1 .f32) : FVec F S4x32x1 .f32 :=
  k0_pay2 (k0_pay159 q k m)

/-- The running denominator after a block. -/
def headL (q : FVec F S4x32x128 .f32) (k : FVec F S1x4x512x128 .f32) (m l : FVec F S4x32x1 .f32) : FVec F S4x32x1 .f32 :=
  k0_pay3 (k0_pay162 q k m l)

/-- The running numerator after a block. -/
def headA (q : FVec F S4x32x128 .f32) (k v : FVec F S1x4x512x128 .f32) (m : FVec F S4x32x1 .f32) (a : FVec F S4x32x128 .f32) :
    FVec F S4x32x128 .f32 :=
  k0_pay1 (k0_pay163 q k v m a)

/-- The running maxima of all heads after a block. -/
def stepM (q : FVec F S4x32x1024 .f32) (k : FVec F S4x512x8x128 .f32) (m : FVec F S4x32x8 .f32) : FVec F S4x32x8 .f32 :=
  ofCols fun h => headM (lanes q h) (keys k h) (col m h)

/-- The running denominators of all heads after a block. -/
def stepL (q : FVec F S4x32x1024 .f32) (k : FVec F S4x512x8x128 .f32) (m l : FVec F S4x32x8 .f32) : FVec F S4x32x8 .f32 :=
  ofCols fun h => headL (lanes q h) (keys k h) (col m h) (col l h)

/-- The running numerators of all heads after a block. -/
def stepA (q : FVec F S4x32x1024 .f32) (k v : FVec F S4x512x8x128 .f32) (m : FVec F S4x32x8 .f32) (a : FVec F S4x32x1024 .f32) :
    FVec F S4x32x1024 .f32 :=
  ofLanes fun h => headA (lanes q h) (keys k h) (keys v h) (col m h) (lanes a h)

/-! ## Stores of all heads read back -/

section Stores

variable {Val : EltTy → Type} {sp : Space} {e : EltTy}

theorem ofLanes_at {β : Type} (W : Fin 8 → S4x32x128.Idx → β) (b : Fin 4) (s : Fin 32) (n : Fin 1024) (h : Fin 8) (d : Fin 128)
    (h1 : 128 * h.val ≤ n.val) (h2 : d.val = n.val - 128 * h.val) : W h (ix3 b s d) = ofLanes W (ix3 b s n) := by
  have hh : h = ⟨n.val / 128, by have := n.isLt; omega⟩ := Fin.ext (show h.val = n.val / 128 by have := d.isLt; omega)
  have hd : d = ⟨n.val % 128, Nat.mod_lt _ (by decide)⟩ := Fin.ext (show d.val = n.val % 128 by have := d.isLt; omega)
  show W h (ix3 b s d) = W ⟨n.val / 128, _⟩ (ix3 b s ⟨n.val % 128, _⟩)
  rw [← hh, ← hd]

theorem ofCols_at {β : Type} (W : Fin 8 → S4x32x1.Idx → β) (b : Fin 4) (s : Fin 32) (n : Fin 8) (h : Fin 8) (d : Fin 1)
    (h1 : h.val = n.val) : W h (ix3 b s d) = ofCols W (ix3 b s n) := by
  obtain rfl : h = n := Fin.ext h1
  obtain rfl : d = 0 := Subsingleton.elim _ _
  rfl

theorem read_lanes (v : View sig .tc sp S4x32x1024 e) (g : v.ty.Contents Val) (w0 w1 w2 w3 w4 w5 w6 w7 : S4x32x128.Idx → Val e) (W : Fin 8 → S4x32x128.Idx → Val e)
    (h0 : w0 = W 0) (h1 : w1 = W 1) (h2 : w2 = W 2) (h3 : w3 = W 3) (h4 : w4 = W 4) (h5 : w5 = W 5) (h6 : w6 = W 6) (h7 : w7 = W 7) :
    v.read Val (v.writes Val g [⟨Rect.unit ![0, 0, 896] S4x32x128.size inb_S4x32x1024_S4x32x128_0_0_896, w7⟩, ⟨Rect.unit ![0, 0, 768] S4x32x128.size inb_S4x32x1024_S4x32x128_0_0_768, w6⟩, ⟨Rect.unit ![0, 0, 640] S4x32x128.size inb_S4x32x1024_S4x32x128_0_0_640, w5⟩, ⟨Rect.unit ![0, 0, 512] S4x32x128.size inb_S4x32x1024_S4x32x128_0_0_512, w4⟩, ⟨Rect.unit ![0, 0, 384] S4x32x128.size inb_S4x32x1024_S4x32x128_0_0_384, w3⟩, ⟨Rect.unit ![0, 0, 256] S4x32x128.size inb_S4x32x1024_S4x32x128_0_0_256, w2⟩, ⟨Rect.unit ![0, 0, 128] S4x32x128.size inb_S4x32x1024_S4x32x128_0_0_128, w1⟩, ⟨Rect.unit ![0, 0, 0] S4x32x128.size inb_S4x32x1024_S4x32x128_0_0_0, w0⟩]) = ofLanes W := by
  subst h0 h1 h2 h3 h4 h5 h6 h7
  funext ix
  obtain ⟨b, s, n, rfl⟩ : ∃ b s n, ix = ix3 b s n := ⟨_, _, _, eq_ix3 ix⟩

  by_cases c7 : 896 ≤ n.val
  · refine (View.read_writes_cons_unit_of_mem v g _ _ _ _ (show (Rect.unit (s := S4x32x1024) ![0, 0, 896] S4x32x128.size inb_S4x32x1024_S4x32x128_0_0_896).shape.Idx from ix3 b s (⟨n.val - 896, by have := n.isLt; omega⟩ : Fin 128)) rfl
      (fun a => by
        match a with
        | ⟨0, _⟩ => exact (Nat.zero_add _).symm
        | ⟨1, _⟩ => exact (Nat.zero_add _).symm
        | ⟨2, _⟩ => exact (show n.val = 896 + (n.val - 896) by omega))).trans ?_
    exact ofLanes_at W b s n 7 _ (by omega) rfl
  refine (View.read_writes_cons_unit_of_not_mem v g _ _ _ _ rfl (2 : Fin 3) (.inl (show n.val < 896 by omega))).trans ?_
  by_cases c6 : 768 ≤ n.val
  · refine (View.read_writes_cons_unit_of_mem v g _ _ _ _ (show (Rect.unit (s := S4x32x1024) ![0, 0, 768] S4x32x128.size inb_S4x32x1024_S4x32x128_0_0_768).shape.Idx from ix3 b s (⟨n.val - 768, by have := n.isLt; omega⟩ : Fin 128)) rfl
      (fun a => by
        match a with
        | ⟨0, _⟩ => exact (Nat.zero_add _).symm
        | ⟨1, _⟩ => exact (Nat.zero_add _).symm
        | ⟨2, _⟩ => exact (show n.val = 768 + (n.val - 768) by omega))).trans ?_
    exact ofLanes_at W b s n 6 _ (by omega) rfl
  refine (View.read_writes_cons_unit_of_not_mem v g _ _ _ _ rfl (2 : Fin 3) (.inl (show n.val < 768 by omega))).trans ?_
  by_cases c5 : 640 ≤ n.val
  · refine (View.read_writes_cons_unit_of_mem v g _ _ _ _ (show (Rect.unit (s := S4x32x1024) ![0, 0, 640] S4x32x128.size inb_S4x32x1024_S4x32x128_0_0_640).shape.Idx from ix3 b s (⟨n.val - 640, by have := n.isLt; omega⟩ : Fin 128)) rfl
      (fun a => by
        match a with
        | ⟨0, _⟩ => exact (Nat.zero_add _).symm
        | ⟨1, _⟩ => exact (Nat.zero_add _).symm
        | ⟨2, _⟩ => exact (show n.val = 640 + (n.val - 640) by omega))).trans ?_
    exact ofLanes_at W b s n 5 _ (by omega) rfl
  refine (View.read_writes_cons_unit_of_not_mem v g _ _ _ _ rfl (2 : Fin 3) (.inl (show n.val < 640 by omega))).trans ?_
  by_cases c4 : 512 ≤ n.val
  · refine (View.read_writes_cons_unit_of_mem v g _ _ _ _ (show (Rect.unit (s := S4x32x1024) ![0, 0, 512] S4x32x128.size inb_S4x32x1024_S4x32x128_0_0_512).shape.Idx from ix3 b s (⟨n.val - 512, by have := n.isLt; omega⟩ : Fin 128)) rfl
      (fun a => by
        match a with
        | ⟨0, _⟩ => exact (Nat.zero_add _).symm
        | ⟨1, _⟩ => exact (Nat.zero_add _).symm
        | ⟨2, _⟩ => exact (show n.val = 512 + (n.val - 512) by omega))).trans ?_
    exact ofLanes_at W b s n 4 _ (by omega) rfl
  refine (View.read_writes_cons_unit_of_not_mem v g _ _ _ _ rfl (2 : Fin 3) (.inl (show n.val < 512 by omega))).trans ?_
  by_cases c3 : 384 ≤ n.val
  · refine (View.read_writes_cons_unit_of_mem v g _ _ _ _ (show (Rect.unit (s := S4x32x1024) ![0, 0, 384] S4x32x128.size inb_S4x32x1024_S4x32x128_0_0_384).shape.Idx from ix3 b s (⟨n.val - 384, by have := n.isLt; omega⟩ : Fin 128)) rfl
      (fun a => by
        match a with
        | ⟨0, _⟩ => exact (Nat.zero_add _).symm
        | ⟨1, _⟩ => exact (Nat.zero_add _).symm
        | ⟨2, _⟩ => exact (show n.val = 384 + (n.val - 384) by omega))).trans ?_
    exact ofLanes_at W b s n 3 _ (by omega) rfl
  refine (View.read_writes_cons_unit_of_not_mem v g _ _ _ _ rfl (2 : Fin 3) (.inl (show n.val < 384 by omega))).trans ?_
  by_cases c2 : 256 ≤ n.val
  · refine (View.read_writes_cons_unit_of_mem v g _ _ _ _ (show (Rect.unit (s := S4x32x1024) ![0, 0, 256] S4x32x128.size inb_S4x32x1024_S4x32x128_0_0_256).shape.Idx from ix3 b s (⟨n.val - 256, by have := n.isLt; omega⟩ : Fin 128)) rfl
      (fun a => by
        match a with
        | ⟨0, _⟩ => exact (Nat.zero_add _).symm
        | ⟨1, _⟩ => exact (Nat.zero_add _).symm
        | ⟨2, _⟩ => exact (show n.val = 256 + (n.val - 256) by omega))).trans ?_
    exact ofLanes_at W b s n 2 _ (by omega) rfl
  refine (View.read_writes_cons_unit_of_not_mem v g _ _ _ _ rfl (2 : Fin 3) (.inl (show n.val < 256 by omega))).trans ?_
  by_cases c1 : 128 ≤ n.val
  · refine (View.read_writes_cons_unit_of_mem v g _ _ _ _ (show (Rect.unit (s := S4x32x1024) ![0, 0, 128] S4x32x128.size inb_S4x32x1024_S4x32x128_0_0_128).shape.Idx from ix3 b s (⟨n.val - 128, by have := n.isLt; omega⟩ : Fin 128)) rfl
      (fun a => by
        match a with
        | ⟨0, _⟩ => exact (Nat.zero_add _).symm
        | ⟨1, _⟩ => exact (Nat.zero_add _).symm
        | ⟨2, _⟩ => exact (show n.val = 128 + (n.val - 128) by omega))).trans ?_
    exact ofLanes_at W b s n 1 _ (by omega) rfl
  refine (View.read_writes_cons_unit_of_not_mem v g _ _ _ _ rfl (2 : Fin 3) (.inl (show n.val < 128 by omega))).trans ?_
  refine (View.read_writes_cons_unit_of_mem v g _ _ _ _ (show (Rect.unit (s := S4x32x1024) ![0, 0, 0] S4x32x128.size inb_S4x32x1024_S4x32x128_0_0_0).shape.Idx from ix3 b s (⟨n.val - 0, by omega⟩ : Fin 128)) rfl
      (fun a => by
        match a with
        | ⟨0, _⟩ => exact (Nat.zero_add _).symm
        | ⟨1, _⟩ => exact (Nat.zero_add _).symm
        | ⟨2, _⟩ => exact (show n.val = 0 + (n.val - 0) by omega))).trans ?_
  exact ofLanes_at W b s n 0 _ (by omega) rfl

theorem read_cols (v : View sig .tc sp S4x32x8 e) (g : v.ty.Contents Val) (w0 w1 w2 w3 w4 w5 w6 w7 : S4x32x1.Idx → Val e) (W : Fin 8 → S4x32x1.Idx → Val e)
    (h0 : w0 = W 0) (h1 : w1 = W 1) (h2 : w2 = W 2) (h3 : w3 = W 3) (h4 : w4 = W 4) (h5 : w5 = W 5) (h6 : w6 = W 6) (h7 : w7 = W 7) :
    v.read Val (v.writes Val g [⟨Rect.unit ![0, 0, 7] S4x32x1.size inb_S4x32x8_S4x32x1_0_0_7, w7⟩, ⟨Rect.unit ![0, 0, 6] S4x32x1.size inb_S4x32x8_S4x32x1_0_0_6, w6⟩, ⟨Rect.unit ![0, 0, 5] S4x32x1.size inb_S4x32x8_S4x32x1_0_0_5, w5⟩, ⟨Rect.unit ![0, 0, 4] S4x32x1.size inb_S4x32x8_S4x32x1_0_0_4, w4⟩, ⟨Rect.unit ![0, 0, 3] S4x32x1.size inb_S4x32x8_S4x32x1_0_0_3, w3⟩, ⟨Rect.unit ![0, 0, 2] S4x32x1.size inb_S4x32x8_S4x32x1_0_0_2, w2⟩, ⟨Rect.unit ![0, 0, 1] S4x32x1.size inb_S4x32x8_S4x32x1_0_0_1, w1⟩, ⟨Rect.unit ![0, 0, 0] S4x32x1.size inb_S4x32x8_S4x32x1_0_0_0, w0⟩]) = ofCols W := by
  subst h0 h1 h2 h3 h4 h5 h6 h7
  funext ix
  obtain ⟨b, s, n, rfl⟩ : ∃ b s n, ix = ix3 b s n := ⟨_, _, _, eq_ix3 ix⟩

  by_cases c7 : 7 ≤ n.val
  · refine (View.read_writes_cons_unit_of_mem v g _ _ _ _ (show (Rect.unit (s := S4x32x8) ![0, 0, 7] S4x32x1.size inb_S4x32x8_S4x32x1_0_0_7).shape.Idx from ix3 b s (⟨n.val - 7, by have := n.isLt; omega⟩ : Fin 1)) rfl
      (fun a => by
        match a with
        | ⟨0, _⟩ => exact (Nat.zero_add _).symm
        | ⟨1, _⟩ => exact (Nat.zero_add _).symm
        | ⟨2, _⟩ => exact (show n.val = 7 + (n.val - 7) by omega))).trans ?_
    exact ofCols_at W b s n 7 _ (by have := n.isLt; omega)
  refine (View.read_writes_cons_unit_of_not_mem v g _ _ _ _ rfl (2 : Fin 3) (.inl (show n.val < 7 by omega))).trans ?_
  by_cases c6 : 6 ≤ n.val
  · refine (View.read_writes_cons_unit_of_mem v g _ _ _ _ (show (Rect.unit (s := S4x32x8) ![0, 0, 6] S4x32x1.size inb_S4x32x8_S4x32x1_0_0_6).shape.Idx from ix3 b s (⟨n.val - 6, by have := n.isLt; omega⟩ : Fin 1)) rfl
      (fun a => by
        match a with
        | ⟨0, _⟩ => exact (Nat.zero_add _).symm
        | ⟨1, _⟩ => exact (Nat.zero_add _).symm
        | ⟨2, _⟩ => exact (show n.val = 6 + (n.val - 6) by omega))).trans ?_
    exact ofCols_at W b s n 6 _ (by have := n.isLt; omega)
  refine (View.read_writes_cons_unit_of_not_mem v g _ _ _ _ rfl (2 : Fin 3) (.inl (show n.val < 6 by omega))).trans ?_
  by_cases c5 : 5 ≤ n.val
  · refine (View.read_writes_cons_unit_of_mem v g _ _ _ _ (show (Rect.unit (s := S4x32x8) ![0, 0, 5] S4x32x1.size inb_S4x32x8_S4x32x1_0_0_5).shape.Idx from ix3 b s (⟨n.val - 5, by have := n.isLt; omega⟩ : Fin 1)) rfl
      (fun a => by
        match a with
        | ⟨0, _⟩ => exact (Nat.zero_add _).symm
        | ⟨1, _⟩ => exact (Nat.zero_add _).symm
        | ⟨2, _⟩ => exact (show n.val = 5 + (n.val - 5) by omega))).trans ?_
    exact ofCols_at W b s n 5 _ (by have := n.isLt; omega)
  refine (View.read_writes_cons_unit_of_not_mem v g _ _ _ _ rfl (2 : Fin 3) (.inl (show n.val < 5 by omega))).trans ?_
  by_cases c4 : 4 ≤ n.val
  · refine (View.read_writes_cons_unit_of_mem v g _ _ _ _ (show (Rect.unit (s := S4x32x8) ![0, 0, 4] S4x32x1.size inb_S4x32x8_S4x32x1_0_0_4).shape.Idx from ix3 b s (⟨n.val - 4, by have := n.isLt; omega⟩ : Fin 1)) rfl
      (fun a => by
        match a with
        | ⟨0, _⟩ => exact (Nat.zero_add _).symm
        | ⟨1, _⟩ => exact (Nat.zero_add _).symm
        | ⟨2, _⟩ => exact (show n.val = 4 + (n.val - 4) by omega))).trans ?_
    exact ofCols_at W b s n 4 _ (by have := n.isLt; omega)
  refine (View.read_writes_cons_unit_of_not_mem v g _ _ _ _ rfl (2 : Fin 3) (.inl (show n.val < 4 by omega))).trans ?_
  by_cases c3 : 3 ≤ n.val
  · refine (View.read_writes_cons_unit_of_mem v g _ _ _ _ (show (Rect.unit (s := S4x32x8) ![0, 0, 3] S4x32x1.size inb_S4x32x8_S4x32x1_0_0_3).shape.Idx from ix3 b s (⟨n.val - 3, by have := n.isLt; omega⟩ : Fin 1)) rfl
      (fun a => by
        match a with
        | ⟨0, _⟩ => exact (Nat.zero_add _).symm
        | ⟨1, _⟩ => exact (Nat.zero_add _).symm
        | ⟨2, _⟩ => exact (show n.val = 3 + (n.val - 3) by omega))).trans ?_
    exact ofCols_at W b s n 3 _ (by have := n.isLt; omega)
  refine (View.read_writes_cons_unit_of_not_mem v g _ _ _ _ rfl (2 : Fin 3) (.inl (show n.val < 3 by omega))).trans ?_
  by_cases c2 : 2 ≤ n.val
  · refine (View.read_writes_cons_unit_of_mem v g _ _ _ _ (show (Rect.unit (s := S4x32x8) ![0, 0, 2] S4x32x1.size inb_S4x32x8_S4x32x1_0_0_2).shape.Idx from ix3 b s (⟨n.val - 2, by have := n.isLt; omega⟩ : Fin 1)) rfl
      (fun a => by
        match a with
        | ⟨0, _⟩ => exact (Nat.zero_add _).symm
        | ⟨1, _⟩ => exact (Nat.zero_add _).symm
        | ⟨2, _⟩ => exact (show n.val = 2 + (n.val - 2) by omega))).trans ?_
    exact ofCols_at W b s n 2 _ (by have := n.isLt; omega)
  refine (View.read_writes_cons_unit_of_not_mem v g _ _ _ _ rfl (2 : Fin 3) (.inl (show n.val < 2 by omega))).trans ?_
  by_cases c1 : 1 ≤ n.val
  · refine (View.read_writes_cons_unit_of_mem v g _ _ _ _ (show (Rect.unit (s := S4x32x8) ![0, 0, 1] S4x32x1.size inb_S4x32x8_S4x32x1_0_0_1).shape.Idx from ix3 b s (⟨n.val - 1, by have := n.isLt; omega⟩ : Fin 1)) rfl
      (fun a => by
        match a with
        | ⟨0, _⟩ => exact (Nat.zero_add _).symm
        | ⟨1, _⟩ => exact (Nat.zero_add _).symm
        | ⟨2, _⟩ => exact (show n.val = 1 + (n.val - 1) by omega))).trans ?_
    exact ofCols_at W b s n 1 _ (by have := n.isLt; omega)
  refine (View.read_writes_cons_unit_of_not_mem v g _ _ _ _ rfl (2 : Fin 3) (.inl (show n.val < 1 by omega))).trans ?_
  refine (View.read_writes_cons_unit_of_mem v g _ _ _ _ (show (Rect.unit (s := S4x32x8) ![0, 0, 0] S4x32x1.size inb_S4x32x8_S4x32x1_0_0_0).shape.Idx from ix3 b s (⟨n.val - 0, by omega⟩ : Fin 1)) rfl
      (fun a => by
        match a with
        | ⟨0, _⟩ => exact (Nat.zero_add _).symm
        | ⟨1, _⟩ => exact (Nat.zero_add _).symm
        | ⟨2, _⟩ => exact (show n.val = 0 + (n.val - 0) by omega))).trans ?_
  exact ofCols_at W b s n 0 _ (by omega)

/-- Eight copies into a staging buffer, and the load of one head. -/
theorem load_stage (m : Memref sig .tc sp S8x4x512x128 .f32) (f : m.view.ty.Contents Val)
    (i0 : ∀ a, (![0, 0, 0, 0] : Fin 4 → ℕ) a + S1x4x512x128.size a ≤ S8x4x512x128.size a) (i1 : ∀ a, (![1, 0, 0, 0] : Fin 4 → ℕ) a + S1x4x512x128.size a ≤ S8x4x512x128.size a) (i2 : ∀ a, (![2, 0, 0, 0] : Fin 4 → ℕ) a + S1x4x512x128.size a ≤ S8x4x512x128.size a) (i3 : ∀ a, (![3, 0, 0, 0] : Fin 4 → ℕ) a + S1x4x512x128.size a ≤ S8x4x512x128.size a) (i4 : ∀ a, (![4, 0, 0, 0] : Fin 4 → ℕ) a + S1x4x512x128.size a ≤ S8x4x512x128.size a) (i5 : ∀ a, (![5, 0, 0, 0] : Fin 4 → ℕ) a + S1x4x512x128.size a ≤ S8x4x512x128.size a) (i6 : ∀ a, (![6, 0, 0, 0] : Fin 4 → ℕ) a + S1x4x512x128.size a ≤ S8x4x512x128.size a) (i7 : ∀ a, (![7, 0, 0, 0] : Fin 4 → ℕ) a + S1x4x512x128.size a ≤ S8x4x512x128.size a)
    a0 a1 a2 a3 a4 a5 a6 a7 q0 q1 q2 q3 q4 q5 q6 q7 (X0 X1 X2 X3 X4 X5 X6 X7 : S4x512x128.Idx → Val .f32)
    (x : S4x512x8x128.Idx → Val .f32) (h0 : ∀ b j d, X0 (ix3 b j d) = x (ix4 b j (0 : Fin 8) d)) (h1 : ∀ b j d, X1 (ix3 b j d) = x (ix4 b j (1 : Fin 8) d)) (h2 : ∀ b j d, X2 (ix3 b j d) = x (ix4 b j (2 : Fin 8) d)) (h3 : ∀ b j d, X3 (ix3 b j d) = x (ix4 b j (3 : Fin 8) d)) (h4 : ∀ b j d, X4 (ix3 b j d) = x (ix4 b j (4 : Fin 8) d)) (h5 : ∀ b j d, X5 (ix3 b j d) = x (ix4 b j (5 : Fin 8) d)) (h6 : ∀ b j d, X6 (ix3 b j d) = x (ix4 b j (6 : Fin 8) d)) (h7 : ∀ b j d, X7 (ix3 b j d) = x (ix4 b j (7 : Fin 8) d))
    (h : Fin 8) (inb : ∀ a, (![h.val, 0, 0, 0] : Fin 4 → ℕ) a + S1x4x512x128.size a ≤ S8x4x512x128.size a) :
    m.view.readAt Val (Rect.unit (s := S8x4x512x128) ![h.val, 0, 0, 0] S1x4x512x128.size inb).toLoadRect
      (((m.slice (Rect.unit (s := S8x4x512x128) ![7, 0, 0, 0] S1x4x512x128.size i7) a7).squeeze S4x512x128 q7).view.write Val (((m.slice (Rect.unit (s := S8x4x512x128) ![6, 0, 0, 0] S1x4x512x128.size i6) a6).squeeze S4x512x128 q6).view.write Val (((m.slice (Rect.unit (s := S8x4x512x128) ![5, 0, 0, 0] S1x4x512x128.size i5) a5).squeeze S4x512x128 q5).view.write Val (((m.slice (Rect.unit (s := S8x4x512x128) ![4, 0, 0, 0] S1x4x512x128.size i4) a4).squeeze S4x512x128 q4).view.write Val (((m.slice (Rect.unit (s := S8x4x512x128) ![3, 0, 0, 0] S1x4x512x128.size i3) a3).squeeze S4x512x128 q3).view.write Val (((m.slice (Rect.unit (s := S8x4x512x128) ![2, 0, 0, 0] S1x4x512x128.size i2) a2).squeeze S4x512x128 q2).view.write Val (((m.slice (Rect.unit (s := S8x4x512x128) ![1, 0, 0, 0] S1x4x512x128.size i1) a1).squeeze S4x512x128 q1).view.write Val (((m.slice (Rect.unit (s := S8x4x512x128) ![0, 0, 0, 0] S1x4x512x128.size i0) a0).squeeze S4x512x128 q0).view.write Val f X0 Finset.univ) X1 Finset.univ) X2 Finset.univ) X3 Finset.univ) X4 Finset.univ) X5 Finset.univ) X6 Finset.univ) X7 Finset.univ) = keys x h := by
  funext ix
  obtain ⟨z, b, j, d, rfl⟩ : ∃ z b j d, ix = ix4 z b j d := ⟨_, _, _, _, eq_ix4 ix⟩
  have hi : (Rect.unit (s := S8x4x512x128) ![h.val, 0, 0, 0] S1x4x512x128.size inb).emb (ix4 z b j d) = ix4 h b j d := by
    obtain rfl : z = 0 := Subsingleton.elim _ _
    funext a
    match a with
    | ⟨0, _⟩ => exact Fin.ext (show h.val + 1 * 0 = h.val by omega)
    | ⟨1, _⟩ => exact Fin.ext (show 0 + 1 * b.val = b.val by omega)
    | ⟨2, _⟩ => exact Fin.ext (show 0 + 1 * j.val = j.val by omega)
    | ⟨3, _⟩ => exact Fin.ext (show 0 + 1 * d.val = d.val by omega)
  rw [View.readAt_apply]
  refine (congrArg (m.view.read Val _) hi).trans ?_
  show _ = x (ix4 b j h d)

  refine (read_stage m _ 7 i7 a7 q7 X7 h b j d).trans ?_
  by_cases c7 : h.val = 7
  · rw [if_pos c7, h7]
    exact congrArg (fun h => x (ix4 b j h d)) (Fin.ext c7).symm
  rw [if_neg c7]
  refine (read_stage m _ 6 i6 a6 q6 X6 h b j d).trans ?_
  by_cases c6 : h.val = 6
  · rw [if_pos c6, h6]
    exact congrArg (fun h => x (ix4 b j h d)) (Fin.ext c6).symm
  rw [if_neg c6]
  refine (read_stage m _ 5 i5 a5 q5 X5 h b j d).trans ?_
  by_cases c5 : h.val = 5
  · rw [if_pos c5, h5]
    exact congrArg (fun h => x (ix4 b j h d)) (Fin.ext c5).symm
  rw [if_neg c5]
  refine (read_stage m _ 4 i4 a4 q4 X4 h b j d).trans ?_
  by_cases c4 : h.val = 4
  · rw [if_pos c4, h4]
    exact congrArg (fun h => x (ix4 b j h d)) (Fin.ext c4).symm
  rw [if_neg c4]
  refine (read_stage m _ 3 i3 a3 q3 X3 h b j d).trans ?_
  by_cases c3 : h.val = 3
  · rw [if_pos c3, h3]
    exact congrArg (fun h => x (ix4 b j h d)) (Fin.ext c3).symm
  rw [if_neg c3]
  refine (read_stage m _ 2 i2 a2 q2 X2 h b j d).trans ?_
  by_cases c2 : h.val = 2
  · rw [if_pos c2, h2]
    exact congrArg (fun h => x (ix4 b j h d)) (Fin.ext c2).symm
  rw [if_neg c2]
  refine (read_stage m _ 1 i1 a1 q1 X1 h b j d).trans ?_
  by_cases c1 : h.val = 1
  · rw [if_pos c1, h1]
    exact congrArg (fun h => x (ix4 b j h d)) (Fin.ext c1).symm
  rw [if_neg c1]
  refine (read_stage m _ 0 i0 a0 q0 X0 h b j d).trans ?_
  by_cases c0 : h.val = 0
  · rw [if_pos c0, h0]
    exact congrArg (fun h => x (ix4 b j h d)) (Fin.ext c0).symm
  rw [if_neg c0]
  have := h.isLt
  omega

end Stores

/-! ## The stretch's contents -/

variable (c : Dev nD) (arg2 : Memref sig .tc .vmem S4x32x1024 .f32) (arg3 arg4 : Memref sig .tc .vmem S4x512x8x128 .f32)
  (f2 : Buf (Elt F) (arg2.view.loc (c : Thread nD τ))) (f3 : Buf (Elt F) (arg3.view.loc (c : Thread nD τ))) (f4 : Buf (Elt F) (arg4.view.loc (c : Thread nD τ)))
  (f6 : Buf (Elt F) ((Memref.whole cc0_scratch0).view.loc (c : Thread nD τ))) (f7 : Buf (Elt F) ((Memref.whole cc0_scratch1).view.loc (c : Thread nD τ)))

theorem kload0 : coreRaw.sl.v123 c arg3 f3 f6 = keys (arg3.view.read (Elt F) f3) 0 :=
  load_stage (Memref.whole cc0_scratch0) f6 _ _ _ _ _ _ _ _ _ _ _ _ _ _ _ _ _ _ _ _ _ _ _ _ _ _ _ _ _ _ _ _ _
    (read_src arg3 f3 0 (by decide) _ _ _) (read_src arg3 f3 1 (by decide) _ _ _) (read_src arg3 f3 2 (by decide) _ _ _) (read_src arg3 f3 3 (by decide) _ _ _) (read_src arg3 f3 4 (by decide) _ _ _) (read_src arg3 f3 5 (by decide) _ _ _) (read_src arg3 f3 6 (by decide) _ _ _) (read_src arg3 f3 7 (by decide) _ _ _) 0 _
theorem vload0 : coreRaw.sl.v125 c arg4 f4 f7 = keys (arg4.view.read (Elt F) f4) 0 :=
  load_stage (Memref.whole cc0_scratch1) f7 _ _ _ _ _ _ _ _ _ _ _ _ _ _ _ _ _ _ _ _ _ _ _ _ _ _ _ _ _ _ _ _ _
    (read_src arg4 f4 0 (by decide) _ _ _) (read_src arg4 f4 1 (by decide) _ _ _) (read_src arg4 f4 2 (by decide) _ _ _) (read_src arg4 f4 3 (by decide) _ _ _) (read_src arg4 f4 4 (by decide) _ _ _) (read_src arg4 f4 5 (by decide) _ _ _) (read_src arg4 f4 6 (by decide) _ _ _) (read_src arg4 f4 7 (by decide) _ _ _) 0 _
theorem kload1 : coreRaw.sl.v172 c arg3 f3 f6 = keys (arg3.view.read (Elt F) f3) 1 :=
  load_stage (Memref.whole cc0_scratch0) f6 _ _ _ _ _ _ _ _ _ _ _ _ _ _ _ _ _ _ _ _ _ _ _ _ _ _ _ _ _ _ _ _ _
    (read_src arg3 f3 0 (by decide) _ _ _) (read_src arg3 f3 1 (by decide) _ _ _) (read_src arg3 f3 2 (by decide) _ _ _) (read_src arg3 f3 3 (by decide) _ _ _) (read_src arg3 f3 4 (by decide) _ _ _) (read_src arg3 f3 5 (by decide) _ _ _) (read_src arg3 f3 6 (by decide) _ _ _) (read_src arg3 f3 7 (by decide) _ _ _) 1 _
theorem vload1 : coreRaw.sl.v174 c arg4 f4 f7 = keys (arg4.view.read (Elt F) f4) 1 :=
  load_stage (Memref.whole cc0_scratch1) f7 _ _ _ _ _ _ _ _ _ _ _ _ _ _ _ _ _ _ _ _ _ _ _ _ _ _ _ _ _ _ _ _ _
    (read_src arg4 f4 0 (by decide) _ _ _) (read_src arg4 f4 1 (by decide) _ _ _) (read_src arg4 f4 2 (by decide) _ _ _) (read_src arg4 f4 3 (by decide) _ _ _) (read_src arg4 f4 4 (by decide) _ _ _) (read_src arg4 f4 5 (by decide) _ _ _) (read_src arg4 f4 6 (by decide) _ _ _) (read_src arg4 f4 7 (by decide) _ _ _) 1 _
theorem kload2 : coreRaw.sl.v221 c arg3 f3 f6 = keys (arg3.view.read (Elt F) f3) 2 :=
  load_stage (Memref.whole cc0_scratch0) f6 _ _ _ _ _ _ _ _ _ _ _ _ _ _ _ _ _ _ _ _ _ _ _ _ _ _ _ _ _ _ _ _ _
    (read_src arg3 f3 0 (by decide) _ _ _) (read_src arg3 f3 1 (by decide) _ _ _) (read_src arg3 f3 2 (by decide) _ _ _) (read_src arg3 f3 3 (by decide) _ _ _) (read_src arg3 f3 4 (by decide) _ _ _) (read_src arg3 f3 5 (by decide) _ _ _) (read_src arg3 f3 6 (by decide) _ _ _) (read_src arg3 f3 7 (by decide) _ _ _) 2 _
theorem vload2 : coreRaw.sl.v223 c arg4 f4 f7 = keys (arg4.view.read (Elt F) f4) 2 :=
  load_stage (Memref.whole cc0_scratch1) f7 _ _ _ _ _ _ _ _ _ _ _ _ _ _ _ _ _ _ _ _ _ _ _ _ _ _ _ _ _ _ _ _ _
    (read_src arg4 f4 0 (by decide) _ _ _) (read_src arg4 f4 1 (by decide) _ _ _) (read_src arg4 f4 2 (by decide) _ _ _) (read_src arg4 f4 3 (by decide) _ _ _) (read_src arg4 f4 4 (by decide) _ _ _) (read_src arg4 f4 5 (by decide) _ _ _) (read_src arg4 f4 6 (by decide) _ _ _) (read_src arg4 f4 7 (by decide) _ _ _) 2 _
theorem kload3 : coreRaw.sl.v270 c arg3 f3 f6 = keys (arg3.view.read (Elt F) f3) 3 :=
  load_stage (Memref.whole cc0_scratch0) f6 _ _ _ _ _ _ _ _ _ _ _ _ _ _ _ _ _ _ _ _ _ _ _ _ _ _ _ _ _ _ _ _ _
    (read_src arg3 f3 0 (by decide) _ _ _) (read_src arg3 f3 1 (by decide) _ _ _) (read_src arg3 f3 2 (by decide) _ _ _) (read_src arg3 f3 3 (by decide) _ _ _) (read_src arg3 f3 4 (by decide) _ _ _) (read_src arg3 f3 5 (by decide) _ _ _) (read_src arg3 f3 6 (by decide) _ _ _) (read_src arg3 f3 7 (by decide) _ _ _) 3 _
theorem vload3 : coreRaw.sl.v272 c arg4 f4 f7 = keys (arg4.view.read (Elt F) f4) 3 :=
  load_stage (Memref.whole cc0_scratch1) f7 _ _ _ _ _ _ _ _ _ _ _ _ _ _ _ _ _ _ _ _ _ _ _ _ _ _ _ _ _ _ _ _ _
    (read_src arg4 f4 0 (by decide) _ _ _) (read_src arg4 f4 1 (by decide) _ _ _) (read_src arg4 f4 2 (by decide) _ _ _) (read_src arg4 f4 3 (by decide) _ _ _) (read_src arg4 f4 4 (by decide) _ _ _) (read_src arg4 f4 5 (by decide) _ _ _) (read_src arg4 f4 6 (by decide) _ _ _) (read_src arg4 f4 7 (by decide) _ _ _) 3 _
theorem kload4 : coreRaw.sl.v319 c arg3 f3 f6 = keys (arg3.view.read (Elt F) f3) 4 :=
  load_stage (Memref.whole cc0_scratch0) f6 _ _ _ _ _ _ _ _ _ _ _ _ _ _ _ _ _ _ _ _ _ _ _ _ _ _ _ _ _ _ _ _ _
    (read_src arg3 f3 0 (by decide) _ _ _) (read_src arg3 f3 1 (by decide) _ _ _) (read_src arg3 f3 2 (by decide) _ _ _) (read_src arg3 f3 3 (by decide) _ _ _) (read_src arg3 f3 4 (by decide) _ _ _) (read_src arg3 f3 5 (by decide) _ _ _) (read_src arg3 f3 6 (by decide) _ _ _) (read_src arg3 f3 7 (by decide) _ _ _) 4 _
theorem vload4 : coreRaw.sl.v321 c arg4 f4 f7 = keys (arg4.view.read (Elt F) f4) 4 :=
  load_stage (Memref.whole cc0_scratch1) f7 _ _ _ _ _ _ _ _ _ _ _ _ _ _ _ _ _ _ _ _ _ _ _ _ _ _ _ _ _ _ _ _ _
    (read_src arg4 f4 0 (by decide) _ _ _) (read_src arg4 f4 1 (by decide) _ _ _) (read_src arg4 f4 2 (by decide) _ _ _) (read_src arg4 f4 3 (by decide) _ _ _) (read_src arg4 f4 4 (by decide) _ _ _) (read_src arg4 f4 5 (by decide) _ _ _) (read_src arg4 f4 6 (by decide) _ _ _) (read_src arg4 f4 7 (by decide) _ _ _) 4 _
theorem kload5 : coreRaw.sl.v368 c arg3 f3 f6 = keys (arg3.view.read (Elt F) f3) 5 :=
  load_stage (Memref.whole cc0_scratch0) f6 _ _ _ _ _ _ _ _ _ _ _ _ _ _ _ _ _ _ _ _ _ _ _ _ _ _ _ _ _ _ _ _ _
    (read_src arg3 f3 0 (by decide) _ _ _) (read_src arg3 f3 1 (by decide) _ _ _) (read_src arg3 f3 2 (by decide) _ _ _) (read_src arg3 f3 3 (by decide) _ _ _) (read_src arg3 f3 4 (by decide) _ _ _) (read_src arg3 f3 5 (by decide) _ _ _) (read_src arg3 f3 6 (by decide) _ _ _) (read_src arg3 f3 7 (by decide) _ _ _) 5 _
theorem vload5 : coreRaw.sl.v370 c arg4 f4 f7 = keys (arg4.view.read (Elt F) f4) 5 :=
  load_stage (Memref.whole cc0_scratch1) f7 _ _ _ _ _ _ _ _ _ _ _ _ _ _ _ _ _ _ _ _ _ _ _ _ _ _ _ _ _ _ _ _ _
    (read_src arg4 f4 0 (by decide) _ _ _) (read_src arg4 f4 1 (by decide) _ _ _) (read_src arg4 f4 2 (by decide) _ _ _) (read_src arg4 f4 3 (by decide) _ _ _) (read_src arg4 f4 4 (by decide) _ _ _) (read_src arg4 f4 5 (by decide) _ _ _) (read_src arg4 f4 6 (by decide) _ _ _) (read_src arg4 f4 7 (by decide) _ _ _) 5 _
theorem kload6 : coreRaw.sl.v417 c arg3 f3 f6 = keys (arg3.view.read (Elt F) f3) 6 :=
  load_stage (Memref.whole cc0_scratch0) f6 _ _ _ _ _ _ _ _ _ _ _ _ _ _ _ _ _ _ _ _ _ _ _ _ _ _ _ _ _ _ _ _ _
    (read_src arg3 f3 0 (by decide) _ _ _) (read_src arg3 f3 1 (by decide) _ _ _) (read_src arg3 f3 2 (by decide) _ _ _) (read_src arg3 f3 3 (by decide) _ _ _) (read_src arg3 f3 4 (by decide) _ _ _) (read_src arg3 f3 5 (by decide) _ _ _) (read_src arg3 f3 6 (by decide) _ _ _) (read_src arg3 f3 7 (by decide) _ _ _) 6 _
theorem vload6 : coreRaw.sl.v419 c arg4 f4 f7 = keys (arg4.view.read (Elt F) f4) 6 :=
  load_stage (Memref.whole cc0_scratch1) f7 _ _ _ _ _ _ _ _ _ _ _ _ _ _ _ _ _ _ _ _ _ _ _ _ _ _ _ _ _ _ _ _ _
    (read_src arg4 f4 0 (by decide) _ _ _) (read_src arg4 f4 1 (by decide) _ _ _) (read_src arg4 f4 2 (by decide) _ _ _) (read_src arg4 f4 3 (by decide) _ _ _) (read_src arg4 f4 4 (by decide) _ _ _) (read_src arg4 f4 5 (by decide) _ _ _) (read_src arg4 f4 6 (by decide) _ _ _) (read_src arg4 f4 7 (by decide) _ _ _) 6 _
theorem kload7 : coreRaw.sl.v466 c arg3 f3 f6 = keys (arg3.view.read (Elt F) f3) 7 :=
  load_stage (Memref.whole cc0_scratch0) f6 _ _ _ _ _ _ _ _ _ _ _ _ _ _ _ _ _ _ _ _ _ _ _ _ _ _ _ _ _ _ _ _ _
    (read_src arg3 f3 0 (by decide) _ _ _) (read_src arg3 f3 1 (by decide) _ _ _) (read_src arg3 f3 2 (by decide) _ _ _) (read_src arg3 f3 3 (by decide) _ _ _) (read_src arg3 f3 4 (by decide) _ _ _) (read_src arg3 f3 5 (by decide) _ _ _) (read_src arg3 f3 6 (by decide) _ _ _) (read_src arg3 f3 7 (by decide) _ _ _) 7 _
theorem vload7 : coreRaw.sl.v468 c arg4 f4 f7 = keys (arg4.view.read (Elt F) f4) 7 :=
  load_stage (Memref.whole cc0_scratch1) f7 _ _ _ _ _ _ _ _ _ _ _ _ _ _ _ _ _ _ _ _ _ _ _ _ _ _ _ _ _ _ _ _ _
    (read_src arg4 f4 0 (by decide) _ _ _) (read_src arg4 f4 1 (by decide) _ _ _) (read_src arg4 f4 2 (by decide) _ _ _) (read_src arg4 f4 3 (by decide) _ _ _) (read_src arg4 f4 4 (by decide) _ _ _) (read_src arg4 f4 5 (by decide) _ _ _) (read_src arg4 f4 6 (by decide) _ _ _) (read_src arg4 f4 7 (by decide) _ _ _) 7 _

variable (i : grid0.Coords) (arg1 : Memref sig .tc .smem S1 .i32) (harg1 : arg1.IsWhole) (harg2 : arg2.IsWhole) (harg3 : arg3.IsWhole) (harg4 : arg4.IsWhole) (arg5 : Memref sig .tc .vmem S4x32x1024 .f32) (harg5 : arg5.IsWhole) (g3 : Buf (Elt F) ((Memref.whole cc0_scratch3).view.loc (c : Thread nD τ))) (g4 : Buf (Elt F) ((Memref.whole cc0_scratch4).view.loc (c : Thread nD τ))) (g5 : Buf (Elt F) ((Memref.whole cc0_scratch5).view.loc (c : Thread nD τ)))

theorem qload (h : Fin 8) (inb : ∀ a, (![0, 0, 128 * h.val] : Fin 3 → ℕ) a + S4x32x128.size a ≤ S4x32x1024.size a)
    {sp : Space} {e : EltTy} (m : Memref sig .tc sp S4x32x1024 e) (f : m.view.ty.Contents (Elt F)) :
    m.view.readAt (Elt F) (Rect.unit (s := S4x32x1024) ![0, 0, 128 * h.val] S4x32x128.size inb).toLoadRect f = lanes (m.view.read (Elt F) f) h := by
  funext ix
  refine congrArg (m.view.read (Elt F) f) (funext fun a => ?_)
  match a with
  | ⟨0, _⟩ => exact Fin.ext (show 0 + 1 * (ix 0).val = (ix 0).val by omega)
  | ⟨1, _⟩ => exact Fin.ext (show 0 + 1 * (ix 1).val = (ix 1).val by omega)
  | ⟨2, _⟩ => exact Fin.ext (show 128 * h.val + 1 * (ix 2).val = 128 * h.val + (ix 2).val by omega)

theorem cload (h : Fin 8) (inb : ∀ a, (![0, 0, h.val] : Fin 3 → ℕ) a + S4x32x1.size a ≤ S4x32x8.size a)
    {sp : Space} (m : Memref sig .tc sp S4x32x8 .f32) (f : m.view.ty.Contents (Elt F)) :
    m.view.readAt (Elt F) (Rect.unit (s := S4x32x8) ![0, 0, h.val] S4x32x1.size inb).toLoadRect f = col (m.view.read (Elt F) f) h := by
  funext ix
  refine congrArg (m.view.read (Elt F) f) (funext fun a => ?_)
  match a with
  | ⟨0, _⟩ => exact Fin.ext (show 0 + 1 * (ix 0).val = (ix 0).val by omega)
  | ⟨1, _⟩ => exact Fin.ext (show 0 + 1 * (ix 1).val = (ix 1).val by omega)
  | ⟨2, _⟩ => exact Fin.ext (show h.val + 1 * (ix 2).val = h.val by have : (ix 2).val < 1 := (ix 2).isLt; omega)

theorem headM_congr {q q'} {k k'} {m m' : FVec F S4x32x1 .f32} (hq : q = q') (hk : k = k') (hm : m = m') :
    headM q k m = headM q' k' m' := by rw [hq, hk, hm]
theorem headL_congr {q q'} {k k'} {m m' l l' : FVec F S4x32x1 .f32} (hq : q = q') (hk : k = k') (hm : m = m') (hl : l = l') :
    headL q k m l = headL q' k' m' l' := by rw [hq, hk, hm, hl]
theorem headA_congr {q q'} {k k' v v'} {m m' : FVec F S4x32x1 .f32} {a a'} (hq : q = q') (hk : k = k') (hv : v = v') (hm : m = m')
    (ha : a = a') : headA q k v m a = headA q' k' v' m' a' := by rw [hq, hk, hv, hm, ha]

end Cert.KProof

end
-- ==== Proof.TailValues.lean ====
/- What the two exchanges compute: the contents sent and the output, in terms of the running sums. -/
module

public import proofs.«01_k».proof.Proof.Values

@[expose] public section

noncomputable section

namespace Cert.KProof

open Cert.KernelIdeal Cert.KernelIdeal.Gen
open Idealize.ShloMosaic Idealize.ShloMosaic.TcCoe

variable {F : FTy → Type} [FloatOps F]

/-- A head's own output, rounded for sending. -/
def headZ (a : FVec F S4x32x128 .f32) (l : FVec F S4x32x1 .f32) : FVec F S4x32x128 .bf16 := k0_pay12 a l

/-- Two partial outputs of a head weighted by their logarithms, rounded for sending. -/
def mixZ (za : FVec F S4x32x128 .bf16) (la : FVec F S4x32x1 .f32) (zb : FVec F S4x32x128 .bf16) (lb : FVec F S4x32x1 .f32) :
    FVec F S4x32x128 .bf16 := k0_pay43 za la zb lb

/-- The logarithm that goes with two partial outputs put together. -/
def mixL (la lb : FVec F S4x32x1 .f32) : FVec F S4x32x1 .f32 := k0_pay44 la lb

/-- Two partial outputs of a head weighted by their logarithms, as the output has it. -/
def mixO (za : FVec F S4x32x128 .bf16) (la : FVec F S4x32x1 .f32) (zb : FVec F S4x32x128 .bf16) (lb : FVec F S4x32x1 .f32) :
    FVec F S4x32x128 .f32 := k0_pay80 za la zb lb

/-- What a device sends in the first exchange: its own outputs, -/
def z1Of (a : FVec F S4x32x1024 .f32) (l : FVec F S4x32x8 .f32) : FVec F S4x32x1024 .bf16 :=
  ofLanes fun h => headZ (lanes a h) (col l h)
/-- and their logarithms. -/
def l1Of (m l : FVec F S4x32x8 .f32) : FVec F S4x32x8 .f32 := k0_pay13 m l

/-- What it sends in the second: the outputs put together, -/
def z2Of (za : FVec F S4x32x1024 .bf16) (la : FVec F S4x32x8 .f32) (zb : FVec F S4x32x1024 .bf16) (lb : FVec F S4x32x8 .f32) :
    FVec F S4x32x1024 .bf16 :=
  ofLanes fun h => mixZ (lanes za h) (col la h) (lanes zb h) (col lb h)
/-- and their logarithms. -/
def l2Of (la lb : FVec F S4x32x8 .f32) : FVec F S4x32x8 .f32 := ofCols fun h => mixL (col la h) (col lb h)

/-- The output. -/
def outOf (za : FVec F S4x32x1024 .bf16) (la : FVec F S4x32x8 .f32) (zb : FVec F S4x32x1024 .bf16) (lb : FVec F S4x32x8 .f32) :
    FVec F S4x32x1024 .f32 :=
  ofLanes fun h => mixO (lanes za h) (col la h) (lanes zb h) (col lb h)

section Pieces

variable (a : FVec F S4x32x128 .f32) (l : FVec F S4x32x1 .f32)
  (za : FVec F S4x32x128 .bf16) (la : FVec F S4x32x1 .f32) (zb : FVec F S4x32x128 .bf16) (lb : FVec F S4x32x1 .f32)

theorem pieceZ0 : k0_pay4 a l = headZ a l := rfl
theorem pieceZ1 : k0_pay5 a l = headZ a l := rfl
theorem pieceZ2 : k0_pay6 a l = headZ a l := rfl
theorem pieceZ3 : k0_pay7 a l = headZ a l := rfl
theorem pieceZ4 : k0_pay8 a l = headZ a l := rfl
theorem pieceZ5 : k0_pay9 a l = headZ a l := rfl
theorem pieceZ6 : k0_pay11 (k0_pay10 a l) = headZ a l := rfl
theorem pieceZ7 : k0_pay12 a l = headZ a l := rfl

theorem mixZ0 : k0_pay20 (k0_pay14 za) la (k0_pay15 zb) lb = mixZ za la zb lb := rfl
theorem mixZ1 : k0_pay29 (k0_pay22 zb) (k0_pay26 la lb) (k0_pay27 za la lb) (k0_pay28 la lb) = mixZ za la zb lb := rfl
theorem mixZ2 : k0_pay37 (k0_pay36 za la zb lb) = mixZ za la zb lb := rfl
theorem mixZ3 : k0_pay43 za la zb lb = mixZ za la zb lb := rfl
theorem mixZ4 : k0_pay49 za la zb lb = mixZ za la zb lb := rfl
theorem mixZ5 : k0_pay57 (k0_pay51 za) la (k0_pay52 zb) lb = mixZ za la zb lb := rfl
theorem mixZ6 : k0_pay66 (k0_pay59 zb) (k0_pay63 la lb) (k0_pay64 za la lb) (k0_pay65 la lb) = mixZ za la zb lb := rfl
theorem mixZ7 : k0_pay74 (k0_pay73 za la zb lb) = mixZ za la zb lb := rfl

theorem mixL0 : k0_pay21 la lb = mixL la lb := rfl
theorem mixL1 : k0_pay30 (k0_pay23 la lb) (k0_pay26 la lb) = mixL la lb := rfl
theorem mixL2 : k0_pay38 (k0_pay35 la lb) = mixL la lb := rfl
theorem mixL3 : k0_pay44 la lb = mixL la lb := rfl
theorem mixL4 : k0_pay50 la lb = mixL la lb := rfl
theorem mixL5 : k0_pay58 la lb = mixL la lb := rfl
theorem mixL6 : k0_pay67 (k0_pay60 la lb) (k0_pay63 la lb) = mixL la lb := rfl
theorem mixL7 : k0_pay75 (k0_pay72 la lb) = mixL la lb := rfl

theorem mixO0 : k0_pay76 za la zb lb = mixO za la zb lb := rfl
theorem mixO1 : k0_pay78 (k0_pay77 za) la zb lb = mixO za la zb lb := rfl
theorem mixO2 : k0_pay79 za la zb lb = mixO za la zb lb := rfl
theorem mixO3 : k0_pay80 za la zb lb = mixO za la zb lb := rfl
theorem mixO4 : k0_pay86 (k0_pay81 za) (k0_pay82 zb) (k0_pay84 la lb) (k0_pay85 la lb) = mixO za la zb lb := rfl
theorem mixO5 : k0_pay87 za la zb lb = mixO za la zb lb := rfl
theorem mixO6 : k0_pay89 (k0_pay88 za) la zb lb = mixO za la zb lb := rfl
theorem mixO7 : k0_pay90 za la zb lb = mixO za la zb lb := rfl

end Pieces

theorem headZ_congr {a a' : FVec F S4x32x128 .f32} {l l' : FVec F S4x32x1 .f32} (ha : a = a') (hl : l = l') :
    headZ a l = headZ a' l' := by rw [ha, hl]
theorem mixZ_congr {za za' zb zb' : FVec F S4x32x128 .bf16} {la la' lb lb' : FVec F S4x32x1 .f32}
    (h1 : za = za') (h2 : la = la') (h3 : zb = zb') (h4 : lb = lb') : mixZ za la zb lb = mixZ za' la' zb' lb' := by rw [h1, h2, h3, h4]
theorem mixL_congr {la la' lb lb' : FVec F S4x32x1 .f32} (h2 : la = la') (h4 : lb = lb') : mixL la lb = mixL la' lb' := by rw [h2, h4]
theorem mixO_congr {za za' zb zb' : FVec F S4x32x128 .bf16} {la la' lb lb' : FVec F S4x32x1 .f32}
    (h1 : za = za') (h2 : la = la') (h3 : zb = zb') (h4 : lb = lb') : mixO za la zb lb = mixO za' la' zb' lb' := by rw [h1, h2, h3, h4]

end Cert.KProof

end
-- ==== Proof.Tail.lean ====
/- The last point's exchanges. -/
module

public import proofs.«01_k».proof.Proof.Sched
public import proofs.«01_k».proof.Proof.TailValues
public import Idealize.ShloMosaic.Lib.VecWindow

@[expose] public section

set_option maxRecDepth 4000
set_option maxHeartbeats 4000000

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The cells' invariants a device uses. -/
def invs (V : Vals F) (K : GSem nD τ sig → ℕ) (c : Dev nD) : sProp 𝕄 :=
  iprop((cellInv ER (sched V) (K (cell 22 c)) (cell 22 c) ∗ cellInv ER (sched V) (K (cell 23 c)) (cell 23 c)
      ∗ cellInv ER (sched V) (K (cell 24 c)) (cell 24 c) ∗ cellInv ER (sched V) (K (cell 25 c)) (cell 25 c)
      ∗ cellInv ER (sched V) (K (cell 26 c)) (cell 26 c) ∗ cellInv ER (sched V) (K (cell 27 c)) (cell 27 c)
      ∗ cellInv ER (sched V) (K (cell 28 c)) (cell 28 c) ∗ cellInv ER (sched V) (K (cell 29 c)) (cell 29 c))
    ∗ (cellInv ER (sched V) (K (barCell c)) (barCell c) ∗ cellInv ER (sched V) (K (barCell (nbrY c))) (barCell (nbrY c))
      ∗ cellInv ER (sched V) (K (barCell (nbrX c))) (barCell (nbrX c)))
    ∗ (cellInv ER (sched V) (K (cell 26 (nbrY c))) (cell 26 (nbrY c)) ∗ cellInv ER (sched V) (K (cell 27 (nbrY c))) (cell 27 (nbrY c))
      ∗ cellInv ER (sched V) (K (cell 28 (nbrX c))) (cell 28 (nbrX c)) ∗ cellInv ER (sched V) (K (cell 29 (nbrX c))) (cell 29 (nbrX c))))

instance invs_persistent (V : Vals F) (K : GSem nD τ sig → ℕ) (c : Dev nD) : BI.Persistent (invs V K c) := by unfold invs; infer_instance

/-- What a device pays the copies of the two exchanges with. -/
def sendToks (c : Dev nD) : sProp 𝕄 :=
  iprop(dutyTok ER (cell 22 c) 0 false ∗ dutyTok ER (cell 23 c) 0 false ∗ dutyTok ER (cell 24 c) 0 false ∗ dutyTok ER (cell 25 c) 0 false
    ∗ dutyTok ER (cell 26 (nbrY c)) 0 false ∗ dutyTok ER (cell 27 (nbrY c)) 0 false
    ∗ dutyTok ER (cell 28 (nbrX c)) 0 false ∗ dutyTok ER (cell 29 (nbrX c)) 0 false)

/-- The sending cells' rounds are open. -/
def sendsOpen (c : Dev nD) : sProp 𝕄 :=
  iprop(reached ER (cell 22 c) 0 ∗ reached ER (cell 23 c) 0 ∗ reached ER (cell 24 c) 0 ∗ reached ER (cell 25 c) 0)

instance sendsOpen_persistent (c : Dev nD) : BI.Persistent (sendsOpen (F := F) c) := by unfold sendsOpen; infer_instance

/-- Where a device stands on its own cells of the exchange. -/
def spots (c : Dev nD) (r : ℕ) : sProp 𝕄 :=
  iprop(atPos ER (cell 22 c) r ∅ 0 ∗ atPos ER (cell 23 c) r ∅ 0 ∗ atPos ER (cell 24 c) r ∅ 0 ∗ atPos ER (cell 25 c) r ∅ 0
    ∗ atPos ER (cell 26 c) r ∅ 0 ∗ atPos ER (cell 27 c) r ∅ 0 ∗ atPos ER (cell 28 c) r ∅ 0 ∗ atPos ER (cell 29 c) r ∅ 0)

/-- What a device waits for its neighbours' copies with. -/
def recvCreds (c : Dev nD) : sProp 𝕄 :=
  iprop(cred (tallyAt (cell 26 c) () NZ) ∗ cred (tallyAt (cell 27 c) () NL) ∗ cred (tallyAt (cell 28 c) () NZ) ∗ cred (tallyAt (cell 29 c) () NL))

/-- The contents sent are those computed. -/
structure Fits (V : Vals F) (c : Dev nD) (a : FVec F S4x32x1024 .f32) (m l : FVec F S4x32x8 .f32) : Prop where
  z1 : V.z1 c = z1Of a l
  l1 : V.l1 c = l1Of m l
  z2 : V.z2 c = z2Of (V.z1 c) (V.l1 c) (V.z1 (nbrY c)) (V.l1 (nbrY c))
  l2 : V.l2 c = l2Of (V.l1 c) (V.l1 (nbrY c))

theorem own_writes (b : Ref sig .tc) (w w' : b.ty.Contents (Elt F))
    (h : (Memref.whole b).view.read (Elt F) w = w') : w = w' := by
  rw [← h]; exact (View.read_whole _ _).symm

theorem sent6 (fd fs : FVec F S4x32x1024 .bf16) :
    (Memref.whole cc0_scratch7).view.write (Elt F) fd ((Memref.whole cc0_scratch6).view.read (Elt F) fs) Finset.univ = fs := by
  show (View.whole cc0_scratch7).write (Elt F) fd ((View.whole cc0_scratch6).read (Elt F) fs) Finset.univ = fs
  rw [View.read_whole]
  exact View.write_whole_univ _ _ _

theorem sent8 (fd fs : FVec F S4x32x8 .f32) :
    (Memref.whole cc0_scratch9).view.write (Elt F) fd ((Memref.whole cc0_scratch8).view.read (Elt F) fs) Finset.univ = fs := by
  show (View.whole cc0_scratch9).write (Elt F) fd ((View.whole cc0_scratch8).read (Elt F) fs) Finset.univ = fs
  rw [View.read_whole]
  exact View.write_whole_univ _ _ _

theorem sent10 (fd fs : FVec F S4x32x1024 .bf16) :
    (Memref.whole cc0_scratch11).view.write (Elt F) fd ((Memref.whole cc0_scratch10).view.read (Elt F) fs) Finset.univ = fs := by
  show (View.whole cc0_scratch11).write (Elt F) fd ((View.whole cc0_scratch10).read (Elt F) fs) Finset.univ = fs
  rw [View.read_whole]
  exact View.write_whole_univ _ _ _

theorem sent12 (fd fs : FVec F S4x32x8 .f32) :
    (Memref.whole cc0_scratch13).view.write (Elt F) fd ((Memref.whole cc0_scratch12).view.read (Elt F) fs) Finset.univ = fs := by
  show (View.whole cc0_scratch13).write (Elt F) fd ((View.whole cc0_scratch12).read (Elt F) fs) Finset.univ = fs
  rw [View.read_whole]
  exact View.write_whole_univ _ _ _

theorem pay26 (V : Vals F) (c : Dev nD) :
    held (nbrY c) (Memref.whole cc0_scratch7) (V.z1 c) = dmaPay V (nbrY c) 26 := by
  have h : held (F := F) (nbrY c) (Memref.whole cc0_scratch7) (V.z1 c) = held (nbrY c) (Memref.whole cc0_scratch7) (V.z1 (nbrY (nbrY c))) := by
    rw [nbrY_nbrY]
  exact h

theorem pay27 (V : Vals F) (c : Dev nD) :
    held (nbrY c) (Memref.whole cc0_scratch9) (V.l1 c) = dmaPay V (nbrY c) 27 := by
  have h : held (F := F) (nbrY c) (Memref.whole cc0_scratch9) (V.l1 c) = held (nbrY c) (Memref.whole cc0_scratch9) (V.l1 (nbrY (nbrY c))) := by
    rw [nbrY_nbrY]
  exact h

theorem pay28 (V : Vals F) (c : Dev nD) :
    held (nbrX c) (Memref.whole cc0_scratch11) (V.z2 c) = dmaPay V (nbrX c) 28 := by
  have h : held (F := F) (nbrX c) (Memref.whole cc0_scratch11) (V.z2 c) = held (nbrX c) (Memref.whole cc0_scratch11) (V.z2 (nbrX (nbrX c))) := by
    rw [nbrX_nbrX]
  exact h

theorem pay29 (V : Vals F) (c : Dev nD) :
    held (nbrX c) (Memref.whole cc0_scratch13) (V.l2 c) = dmaPay V (nbrX c) 29 := by
  have h : held (F := F) (nbrX c) (Memref.whole cc0_scratch13) (V.l2 c) = held (nbrX c) (Memref.whole cc0_scratch13) (V.l2 (nbrX (nbrX c))) := by
    rw [nbrX_nbrX]
  exact h

theorem pay22 (V : Vals F) (c : Dev nD) : held c (Memref.whole cc0_scratch6) (V.z1 c) = dmaPay V c 22 := rfl

theorem pay23 (V : Vals F) (c : Dev nD) : held c (Memref.whole cc0_scratch8) (V.l1 c) = dmaPay V c 23 := rfl

theorem pay24 (V : Vals F) (c : Dev nD) : held c (Memref.whole cc0_scratch10) (V.z2 c) = dmaPay V c 24 := rfl

theorem pay25 (V : Vals F) (c : Dev nD) : held c (Memref.whole cc0_scratch12) (V.l2 c) = dmaPay V c 25 := rfl

/-- What follows a value is what it makes of it. -/
theorem ret_then {E : Type → Type} {α β : Type} (a : α) (k : α → Prog E β) : (Prog.ret a).bind k = k a := rfl

/-- What one whole store leaves. -/
theorem own_store (b : Ref sig .tc) (f : b.ty.Contents (Elt F)) {off : Fin b.ty.shape.rank → ℕ}
    (inb : ∀ a, off a + b.ty.shape.size a ≤ b.ty.shape.size a) (w : (Rect.unit off b.ty.shape.size inb).shape.Idx → Elt F b.ty.elt)
    (L : List (View.Piece (Elt F) b.ty.shape b.ty.elt)) (w' : b.ty.Contents (Elt F)) (h : w = w') :
    (Memref.whole b).view.writes (Elt F) f (⟨Rect.unit off b.ty.shape.size inb, w⟩ :: L) = w' :=
  own_writes b _ _ ((View.read_writes_full _ _ _ _ _).trans h)

/-- What has come with a cell. -/
theorem got (V : Vals F) (c : Dev nD) (s : DmaSem sig) (hs : 22 ≤ s.val) (P : sProp 𝕄) (h : dmaPay V c s.val = P) :
    bigSep ((sched V).duties (cell s c) 0) (fun d => (sched V).payload (cell s c) 0 d) ⊢ P := by
  rw [← h, ← rest_dma V c s hs, Finset.sdiff_empty]

/-- The last point's stretch: both exchanges, and the output. -/
theorem tailRun (V : Vals F) (K : GSem nD τ sig → ℕ) (c : Dev nD) (i : grid0.Coords) (h2 : k0_cond2 i = 1#1) (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole)
   (g3 : Buf (Elt F) ((Memref.whole cc0_scratch3).view.loc (c : Thread nD τ))) (g4 : Buf (Elt F) ((Memref.whole cc0_scratch4).view.loc (c : Thread nD τ))) (g5 : Buf (Elt F) ((Memref.whole cc0_scratch5).view.loc (c : Thread nD τ))) (hV : Fits V c ((Memref.whole cc0_scratch3).view.read (Elt F) g3) ((Memref.whole cc0_scratch4).view.read (Elt F) g4) ((Memref.whole cc0_scratch5).view.read (Elt F) g5))
   (b6 : Buf (Elt F) ((Memref.whole cc0_scratch6).view.loc (c : Thread nD τ))) (b8 : Buf (Elt F) ((Memref.whole cc0_scratch8).view.loc (c : Thread nD τ))) (b10 : Buf (Elt F) ((Memref.whole cc0_scratch10).view.loc (c : Thread nD τ))) (b12 : Buf (Elt F) ((Memref.whole cc0_scratch12).view.loc (c : Thread nD τ))) (f5 : Buf (Elt F) (arg5.view.loc (c : Thread nD τ))) (W : Waits sig Unit)
   (Q : PUnit → sProp 𝕄) :
   iprop((held c (Memref.whole cc0_scratch3) g3 ∗ held c (Memref.whole cc0_scratch4) g4 ∗ held c (Memref.whole cc0_scratch5) g5
        ∗ held c (Memref.whole cc0_scratch6) b6 ∗ held c (Memref.whole cc0_scratch8) b8
        ∗ held c (Memref.whole cc0_scratch10) b10 ∗ held c (Memref.whole cc0_scratch12) b12 ∗ held c arg5 f5)
      ∗ barPayY (nbrY c) ∗ barPayX (nbrX c) ∗ invs V K c ∗ sendToks c ∗ sendsOpen c ∗ spots c 0 ∗ recvCreds c ∗ levAts L lv
      ∗ owes (c : Thread nD τ) (owedMid c) W
      ∗ ((held c (Memref.whole cc0_scratch3) g3 ∗ held c (Memref.whole cc0_scratch4) g4 ∗ held c (Memref.whole cc0_scratch5) g5)
          -∗ (held c (Memref.whole cc0_scratch6) (V.z1 c) ∗ held c (Memref.whole cc0_scratch7) (V.z1 (nbrY c)) ∗ held c (Memref.whole cc0_scratch8) (V.l1 c) ∗ held c (Memref.whole cc0_scratch9) (V.l1 (nbrY c))
            ∗ held c (Memref.whole cc0_scratch10) (V.z2 c) ∗ held c (Memref.whole cc0_scratch11) (V.z2 (nbrX c)) ∗ held c (Memref.whole cc0_scratch12) (V.l2 c) ∗ held c (Memref.whole cc0_scratch13) (V.l2 (nbrX c)))
          -∗ spots c (0 + 1) -∗ (∃ W', owes (c : Thread nD τ) 0 W')
          -∗ (∃ f, held c arg5 f ∗ ⌜arg5.view.read (Elt F) f = outOf (V.z2 c) (V.l2 c) (V.z2 (nbrX c)) (V.l2 (nbrX c))⌝) -∗ Q ⟨⟩))
   ⊢ wp frame (wpE (defs₀ (F := F)) Variants.none (c : Thread nD τ) none) Set.univ
            (tailAt i arg1 harg1 arg2 harg2 arg3 harg3 arg4 harg4 arg5 harg5 c h2) Q := by
  unfold tailAt tailProg invs sendToks sendsOpen spots recvCreds barPayY barPayX
  iintro ⟨⟨A3, A4, A5, B6, B8, B10, B12, B5⟩, ⟨⟨%f7, D7⟩, ⟨%f9, D9⟩, #R26, #R27⟩, ⟨⟨%f11, D11⟩, ⟨%f13, D13⟩, #R28, #R29⟩,
    ⟨⟨#I22, #I23, #I24, #I25, #I26, #I27, #I28, #I29⟩, -, ⟨#J26, #J27, #J28, #J29⟩⟩,
    ⟨T22, T23, T24, T25, T26, T27, T28, T29⟩, ⟨#R22, #R23, #R24, #R25⟩, ⟨P22, P23, P24, P25, P26, P27, P28, P29⟩,
    ⟨C26, C27, C28, C29⟩, #Hlev, HO, Hk⟩
  sl_exec
  ihave B6 := (named c (Memref.whole cc0_scratch6) (V.z1 c)) $$ [B6]
  · iexists _
    isplitl [B6]; · iexact B6
    ipureintro
    rw [hV.z1]
    refine own_writes cc0_scratch6 _ _ (read_lanes (Memref.whole cc0_scratch6).view b6 _ _ _ _ _ _ _ _ _ ?_ ?_ ?_ ?_ ?_ ?_ ?_ ?_)
    · exact (pieceZ0 _ _).trans <| headZ_congr (qload 0 inb_S4x32x1024_S4x32x128_0_0_0 (Memref.whole cc0_scratch3) g3) (cload 0 inb_S4x32x8_S4x32x1_0_0_0 (Memref.whole cc0_scratch5) g5)
    · exact (pieceZ1 _ _).trans <| headZ_congr (qload 1 inb_S4x32x1024_S4x32x128_0_0_128 (Memref.whole cc0_scratch3) g3) (cload 1 inb_S4x32x8_S4x32x1_0_0_1 (Memref.whole cc0_scratch5) g5)
    · exact (pieceZ2 _ _).trans <| headZ_congr (qload 2 inb_S4x32x1024_S4x32x128_0_0_256 (Memref.whole cc0_scratch3) g3) (cload 2 inb_S4x32x8_S4x32x1_0_0_2 (Memref.whole cc0_scratch5) g5)
    · exact (pieceZ3 _ _).trans <| headZ_congr (qload 3 inb_S4x32x1024_S4x32x128_0_0_384 (Memref.whole cc0_scratch3) g3) (cload 3 inb_S4x32x8_S4x32x1_0_0_3 (Memref.whole cc0_scratch5) g5)
    · exact (pieceZ4 _ _).trans <| headZ_congr (qload 4 inb_S4x32x1024_S4x32x128_0_0_512 (Memref.whole cc0_scratch3) g3) (cload 4 inb_S4x32x8_S4x32x1_0_0_4 (Memref.whole cc0_scratch5) g5)
    · exact (pieceZ5 _ _).trans <| headZ_congr (qload 5 inb_S4x32x1024_S4x32x128_0_0_640 (Memref.whole cc0_scratch3) g3) (cload 5 inb_S4x32x8_S4x32x1_0_0_5 (Memref.whole cc0_scratch5) g5)
    · exact (pieceZ6 _ _).trans <| headZ_congr (qload 6 inb_S4x32x1024_S4x32x128_0_0_768 (Memref.whole cc0_scratch3) g3) (cload 6 inb_S4x32x8_S4x32x1_0_0_6 (Memref.whole cc0_scratch5) g5)
    · exact (pieceZ7 _ _).trans <| headZ_congr (qload 7 inb_S4x32x1024_S4x32x128_0_0_896 (Memref.whole cc0_scratch3) g3) (cload 7 inb_S4x32x8_S4x32x1_0_0_7 (Memref.whole cc0_scratch5) g5)
  ihave B8 := (named c (Memref.whole cc0_scratch8) (V.l1 c)) $$ [B8]
  · iexists _
    isplitl [B8]; · iexact B8
    ipureintro
    rw [hV.l1]
    exact own_store cc0_scratch8 _ _ _ _ _ (congr_arg₂ k0_pay13 (View.readAt_full _ _ _) (View.readAt_full _ _ _))
  unfold owedMid
  iapply (send_step V c (nbrY c) _ (Fin.ext (k0_dev3_eq c)) (Memref.whole cc0_scratch6) (Memref.whole cc0_scratch7) (View.set_whole _) (View.set_whole _)
      22 _ 26 _ rfl rfl (V.z1 c) f7 (V.z1 c) (sent6 _ _) (K (cell 22 c)) (K (cell 26 (nbrY c)))
      (by decide) (by decide) NZ rfl rfl rfl (pay22 V c) (pay26 V c) (owedX c + tallyAt (cell 27 (nbrY c)) () NL) _)
  isplitr; · iexact I22
  isplitr; · iexact J26
  isplitl [B6]; · iexact B6
  isplitl [D7]; · iexact D7
  isplitl [HO]; · iexact HO
  isplitl [T22]; · iexact T22
  isplitr; · iexact R22
  isplitl [T26]; · iexact T26
  isplitr; · iexact R26
  iintro C22 HO
  sl_exec
  iapply (send_step V c (nbrY c) _ (Fin.ext (k0_dev4_eq c)) (Memref.whole cc0_scratch8) (Memref.whole cc0_scratch9) (View.set_whole _) (View.set_whole _)
      23 _ 27 _ rfl rfl (V.l1 c) f9 (V.l1 c) (sent8 _ _) (K (cell 23 c)) (K (cell 27 (nbrY c)))
      (by decide) (by decide) NL rfl rfl rfl (pay23 V c) (pay27 V c) (owedX c) _)
  isplitr; · iexact I23
  isplitr; · iexact J27
  isplitl [B8]; · iexact B8
  isplitl [D9]; · iexact D9
  isplitl [HO]; · iexact HO
  isplitl [T23]; · iexact T23
  isplitr; · iexact R23
  isplitl [T27]; · iexact T27
  isplitr; · iexact R27
  iintro C23 HO
  iapply (wait_step V c (Memref.whole cc0_scratch7) (Memref.whole cc0_scratch6) 22 _ rfl (K (cell 22 c)) (by decide) NZ rfl rfl (owedX c) _ (above_owedX c 0 (by decide)))
  isplitr; · iexact I22
  isplitl [C22]; · iexact C22
  isplitl [HO]; · iexact HO
  isplitr; · iexact Hlev
  isplitl [P22]; · iexact P22
  iintro B6 HO P22
  ihave B6 := (show dmaPay V c ((22 : DmaSem sig)).val ⊢ held c (Memref.whole cc0_scratch6) (V.z1 c) from BI.Entails.refl _) $$ B6
  iapply (wait_step V c (Memref.whole cc0_scratch6) (Memref.whole cc0_scratch7) 26 _ rfl (K (cell 26 c)) (by decide) NZ rfl rfl (owedX c) _ (above_owedX c 2 (by decide)))
  isplitr; · iexact I26
  isplitl [C26]; · iexact C26
  isplitl [HO]; · iexact HO
  isplitr; · iexact Hlev
  isplitl [P26]; · iexact P26
  iintro B7 HO P26
  ihave B7 := (show dmaPay V c ((26 : DmaSem sig)).val ⊢ held c (Memref.whole cc0_scratch7) (V.z1 (nbrY c)) from BI.Entails.refl _) $$ B7
  iapply (wait_step V c (Memref.whole cc0_scratch9) (Memref.whole cc0_scratch8) 23 _ rfl (K (cell 23 c)) (by decide) NL rfl rfl (owedX c) _ (above_owedX c 0 (by decide)))
  isplitr; · iexact I23
  isplitl [C23]; · iexact C23
  isplitl [HO]; · iexact HO
  isplitr; · iexact Hlev
  isplitl [P23]; · iexact P23
  iintro B8 HO P23
  ihave B8 := (show dmaPay V c ((23 : DmaSem sig)).val ⊢ held c (Memref.whole cc0_scratch8) (V.l1 c) from BI.Entails.refl _) $$ B8
  iapply (wait_step V c (Memref.whole cc0_scratch8) (Memref.whole cc0_scratch9) 27 _ rfl (K (cell 27 c)) (by decide) NL rfl rfl (owedX c) _ (above_owedX c 2 (by decide)))
  isplitr; · iexact I27
  isplitl [C27]; · iexact C27
  isplitl [HO]; · iexact HO
  isplitr; · iexact Hlev
  isplitl [P27]; · iexact P27
  iintro B9 HO P27
  ihave B9 := (show dmaPay V c ((27 : DmaSem sig)).val ⊢ held c (Memref.whole cc0_scratch9) (V.l1 (nbrY c)) from BI.Entails.refl _) $$ B9
  dsimp only [ret_then]
  sl_exec
  ihave B10 := (named c (Memref.whole cc0_scratch10) (V.z2 c)) $$ [B10]
  · iexists _
    isplitl [B10]; · iexact B10
    ipureintro
    rw [hV.z2]
    refine own_writes cc0_scratch10 _ _ (read_lanes (Memref.whole cc0_scratch10).view b10 _ _ _ _ _ _ _ _ _ ?_ ?_ ?_ ?_ ?_ ?_ ?_ ?_)
    · exact (mixZ0 _ _ _ _).trans <| mixZ_congr (qload 0 inb_S4x32x1024_S4x32x128_0_0_0 (Memref.whole cc0_scratch6) (V.z1 c)) (cload 0 inb_S4x32x8_S4x32x1_0_0_0 (Memref.whole cc0_scratch8) (V.l1 c)) (qload 0 inb_S4x32x1024_S4x32x128_0_0_0 (Memref.whole cc0_scratch7) (V.z1 (nbrY c))) (cload 0 inb_S4x32x8_S4x32x1_0_0_0 (Memref.whole cc0_scratch9) (V.l1 (nbrY c)))
    · exact (mixZ1 _ _ _ _).trans <| mixZ_congr (qload 1 inb_S4x32x1024_S4x32x128_0_0_128 (Memref.whole cc0_scratch6) (V.z1 c)) (cload 1 inb_S4x32x8_S4x32x1_0_0_1 (Memref.whole cc0_scratch8) (V.l1 c)) (qload 1 inb_S4x32x1024_S4x32x128_0_0_128 (Memref.whole cc0_scratch7) (V.z1 (nbrY c))) (cload 1 inb_S4x32x8_S4x32x1_0_0_1 (Memref.whole cc0_scratch9) (V.l1 (nbrY c)))
    · exact (mixZ2 _ _ _ _).trans <| mixZ_congr (qload 2 inb_S4x32x1024_S4x32x128_0_0_256 (Memref.whole cc0_scratch6) (V.z1 c)) (cload 2 inb_S4x32x8_S4x32x1_0_0_2 (Memref.whole cc0_scratch8) (V.l1 c)) (qload 2 inb_S4x32x1024_S4x32x128_0_0_256 (Memref.whole cc0_scratch7) (V.z1 (nbrY c))) (cload 2 inb_S4x32x8_S4x32x1_0_0_2 (Memref.whole cc0_scratch9) (V.l1 (nbrY c)))
    · exact (mixZ3 _ _ _ _).trans <| mixZ_congr (qload 3 inb_S4x32x1024_S4x32x128_0_0_384 (Memref.whole cc0_scratch6) (V.z1 c)) (cload 3 inb_S4x32x8_S4x32x1_0_0_3 (Memref.whole cc0_scratch8) (V.l1 c)) (qload 3 inb_S4x32x1024_S4x32x128_0_0_384 (Memref.whole cc0_scratch7) (V.z1 (nbrY c))) (cload 3 inb_S4x32x8_S4x32x1_0_0_3 (Memref.whole cc0_scratch9) (V.l1 (nbrY c)))
    · exact (mixZ4 _ _ _ _).trans <| mixZ_congr (qload 4 inb_S4x32x1024_S4x32x128_0_0_512 (Memref.whole cc0_scratch6) (V.z1 c)) (cload 4 inb_S4x32x8_S4x32x1_0_0_4 (Memref.whole cc0_scratch8) (V.l1 c)) (qload 4 inb_S4x32x1024_S4x32x128_0_0_512 (Memref.whole cc0_scratch7) (V.z1 (nbrY c))) (cload 4 inb_S4x32x8_S4x32x1_0_0_4 (Memref.whole cc0_scratch9) (V.l1 (nbrY c)))
    · exact (mixZ5 _ _ _ _).trans <| mixZ_congr (qload 5 inb_S4x32x1024_S4x32x128_0_0_640 (Memref.whole cc0_scratch6) (V.z1 c)) (cload 5 inb_S4x32x8_S4x32x1_0_0_5 (Memref.whole cc0_scratch8) (V.l1 c)) (qload 5 inb_S4x32x1024_S4x32x128_0_0_640 (Memref.whole cc0_scratch7) (V.z1 (nbrY c))) (cload 5 inb_S4x32x8_S4x32x1_0_0_5 (Memref.whole cc0_scratch9) (V.l1 (nbrY c)))
    · exact (mixZ6 _ _ _ _).trans <| mixZ_congr (qload 6 inb_S4x32x1024_S4x32x128_0_0_768 (Memref.whole cc0_scratch6) (V.z1 c)) (cload 6 inb_S4x32x8_S4x32x1_0_0_6 (Memref.whole cc0_scratch8) (V.l1 c)) (qload 6 inb_S4x32x1024_S4x32x128_0_0_768 (Memref.whole cc0_scratch7) (V.z1 (nbrY c))) (cload 6 inb_S4x32x8_S4x32x1_0_0_6 (Memref.whole cc0_scratch9) (V.l1 (nbrY c)))
    · exact (mixZ7 _ _ _ _).trans <| mixZ_congr (qload 7 inb_S4x32x1024_S4x32x128_0_0_896 (Memref.whole cc0_scratch6) (V.z1 c)) (cload 7 inb_S4x32x8_S4x32x1_0_0_7 (Memref.whole cc0_scratch8) (V.l1 c)) (qload 7 inb_S4x32x1024_S4x32x128_0_0_896 (Memref.whole cc0_scratch7) (V.z1 (nbrY c))) (cload 7 inb_S4x32x8_S4x32x1_0_0_7 (Memref.whole cc0_scratch9) (V.l1 (nbrY c)))
  ihave B12 := (named c (Memref.whole cc0_scratch12) (V.l2 c)) $$ [B12]
  · iexists _
    isplitl [B12]; · iexact B12
    ipureintro
    rw [hV.l2]
    refine own_writes cc0_scratch12 _ _ (read_cols (Memref.whole cc0_scratch12).view b12 _ _ _ _ _ _ _ _ _ ?_ ?_ ?_ ?_ ?_ ?_ ?_ ?_)
    · exact (mixL0 _ _).trans <| mixL_congr (cload 0 inb_S4x32x8_S4x32x1_0_0_0 (Memref.whole cc0_scratch8) (V.l1 c)) (cload 0 inb_S4x32x8_S4x32x1_0_0_0 (Memref.whole cc0_scratch9) (V.l1 (nbrY c)))
    · exact (mixL1 _ _).trans <| mixL_congr (cload 1 inb_S4x32x8_S4x32x1_0_0_1 (Memref.whole cc0_scratch8) (V.l1 c)) (cload 1 inb_S4x32x8_S4x32x1_0_0_1 (Memref.whole cc0_scratch9) (V.l1 (nbrY c)))
    · exact (mixL2 _ _).trans <| mixL_congr (cload 2 inb_S4x32x8_S4x32x1_0_0_2 (Memref.whole cc0_scratch8) (V.l1 c)) (cload 2 inb_S4x32x8_S4x32x1_0_0_2 (Memref.whole cc0_scratch9) (V.l1 (nbrY c)))
    · exact (mixL3 _ _).trans <| mixL_congr (cload 3 inb_S4x32x8_S4x32x1_0_0_3 (Memref.whole cc0_scratch8) (V.l1 c)) (cload 3 inb_S4x32x8_S4x32x1_0_0_3 (Memref.whole cc0_scratch9) (V.l1 (nbrY c)))
    · exact (mixL4 _ _).trans <| mixL_congr (cload 4 inb_S4x32x8_S4x32x1_0_0_4 (Memref.whole cc0_scratch8) (V.l1 c)) (cload 4 inb_S4x32x8_S4x32x1_0_0_4 (Memref.whole cc0_scratch9) (V.l1 (nbrY c)))
    · exact (mixL5 _ _).trans <| mixL_congr (cload 5 inb_S4x32x8_S4x32x1_0_0_5 (Memref.whole cc0_scratch8) (V.l1 c)) (cload 5 inb_S4x32x8_S4x32x1_0_0_5 (Memref.whole cc0_scratch9) (V.l1 (nbrY c)))
    · exact (mixL6 _ _).trans <| mixL_congr (cload 6 inb_S4x32x8_S4x32x1_0_0_6 (Memref.whole cc0_scratch8) (V.l1 c)) (cload 6 inb_S4x32x8_S4x32x1_0_0_6 (Memref.whole cc0_scratch9) (V.l1 (nbrY c)))
    · exact (mixL7 _ _).trans <| mixL_congr (cload 7 inb_S4x32x8_S4x32x1_0_0_7 (Memref.whole cc0_scratch8) (V.l1 c)) (cload 7 inb_S4x32x8_S4x32x1_0_0_7 (Memref.whole cc0_scratch9) (V.l1 (nbrY c)))
  unfold owedX
  iapply (send_step V c (nbrX c) _ (Fin.ext (k0_dev5_eq c)) (Memref.whole cc0_scratch10) (Memref.whole cc0_scratch11) (View.set_whole _) (View.set_whole _)
      24 _ 28 _ rfl rfl (V.z2 c) f11 (V.z2 c) (sent10 _ _) (K (cell 24 c)) (K (cell 28 (nbrX c)))
      (by decide) (by decide) NZ rfl rfl rfl (pay24 V c) (pay28 V c) (0 + tallyAt (cell 29 (nbrX c)) () NL) _)
  isplitr; · iexact I24
  isplitr; · iexact J28
  isplitl [B10]; · iexact B10
  isplitl [D11]; · iexact D11
  isplitl [HO]; · iexact HO
  isplitl [T24]; · iexact T24
  isplitr; · iexact R24
  isplitl [T28]; · iexact T28
  isplitr; · iexact R28
  iintro C24 HO
  sl_exec
  iapply (send_step V c (nbrX c) _ (Fin.ext (k0_dev6_eq c)) (Memref.whole cc0_scratch12) (Memref.whole cc0_scratch13) (View.set_whole _) (View.set_whole _)
      25 _ 29 _ rfl rfl (V.l2 c) f13 (V.l2 c) (sent12 _ _) (K (cell 25 c)) (K (cell 29 (nbrX c)))
      (by decide) (by decide) NL rfl rfl rfl (pay25 V c) (pay29 V c) (0) _)
  isplitr; · iexact I25
  isplitr; · iexact J29
  isplitl [B12]; · iexact B12
  isplitl [D13]; · iexact D13
  isplitl [HO]; · iexact HO
  isplitl [T25]; · iexact T25
  isplitr; · iexact R25
  isplitl [T29]; · iexact T29
  isplitr; · iexact R29
  iintro C25 HO
  sl_exec
  ihave B10 := (got V c 24 (by decide) (held c (Memref.whole cc0_scratch10) (V.z2 c)) rfl) $$ [P24_pay1]
  · iexact P24_pay1
  ihave B11 := (got V c 28 (by decide) (held c (Memref.whole cc0_scratch11) (V.z2 (nbrX c))) rfl) $$ [P28_pay1]
  · iexact P28_pay1
  ihave B12 := (got V c 25 (by decide) (held c (Memref.whole cc0_scratch12) (V.l2 c)) rfl) $$ [P25_pay1]
  · iexact P25_pay1
  ihave B13 := (got V c 29 (by decide) (held c (Memref.whole cc0_scratch13) (V.l2 (nbrX c))) rfl) $$ [P29_pay1]
  · iexact P29_pay1
  sl_exec
  rw [wp_ret]
  imodintro
  iapply Hk $$ [A3 A4 A5] [B6 B7 B8 B9 B10 B11 B12 B13] [P22 P23 P24 P25 P26 P27 P28 P29] [HO] [B5]
  · isplitl [A3]; · iexact A3
    isplitl [A4]; · iexact A4
    iexact A5
  · isplitl [B6]; · iexact B6
    isplitl [B7]; · iexact B7
    isplitl [B8]; · iexact B8
    isplitl [B9]; · iexact B9
    isplitl [B10]; · iexact B10
    isplitl [B11]; · iexact B11
    isplitl [B12]; · iexact B12
    iexact B13
  · isplitl [P22]; · iexact P22
    isplitl [P23]; · iexact P23
    isplitl [P24]; · iexact P24
    isplitl [P25]; · iexact P25
    isplitl [P26]; · iexact P26
    isplitl [P27]; · iexact P27
    isplitl [P28]; · iexact P28
    iexact P29
  · iexists _; iexact HO
  · iexists _
    isplitl [B5]; · iexact B5
    ipureintro
    refine read_lanes arg5.view f5 _ _ _ _ _ _ _ _ _ ?_ ?_ ?_ ?_ ?_ ?_ ?_ ?_
    · exact (mixO0 _ _ _ _).trans <| mixO_congr (qload 0 inb_S4x32x1024_S4x32x128_0_0_0 (Memref.whole cc0_scratch10) (V.z2 c)) (cload 0 inb_S4x32x8_S4x32x1_0_0_0 (Memref.whole cc0_scratch12) (V.l2 c)) (qload 0 inb_S4x32x1024_S4x32x128_0_0_0 (Memref.whole cc0_scratch11) (V.z2 (nbrX c))) (cload 0 inb_S4x32x8_S4x32x1_0_0_0 (Memref.whole cc0_scratch13) (V.l2 (nbrX c)))
    · exact (mixO1 _ _ _ _).trans <| mixO_congr (qload 1 inb_S4x32x1024_S4x32x128_0_0_128 (Memref.whole cc0_scratch10) (V.z2 c)) (cload 1 inb_S4x32x8_S4x32x1_0_0_1 (Memref.whole cc0_scratch12) (V.l2 c)) (qload 1 inb_S4x32x1024_S4x32x128_0_0_128 (Memref.whole cc0_scratch11) (V.z2 (nbrX c))) (cload 1 inb_S4x32x8_S4x32x1_0_0_1 (Memref.whole cc0_scratch13) (V.l2 (nbrX c)))
    · exact (mixO2 _ _ _ _).trans <| mixO_congr (qload 2 inb_S4x32x1024_S4x32x128_0_0_256 (Memref.whole cc0_scratch10) (V.z2 c)) (cload 2 inb_S4x32x8_S4x32x1_0_0_2 (Memref.whole cc0_scratch12) (V.l2 c)) (qload 2 inb_S4x32x1024_S4x32x128_0_0_256 (Memref.whole cc0_scratch11) (V.z2 (nbrX c))) (cload 2 inb_S4x32x8_S4x32x1_0_0_2 (Memref.whole cc0_scratch13) (V.l2 (nbrX c)))
    · exact (mixO3 _ _ _ _).trans <| mixO_congr (qload 3 inb_S4x32x1024_S4x32x128_0_0_384 (Memref.whole cc0_scratch10) (V.z2 c)) (cload 3 inb_S4x32x8_S4x32x1_0_0_3 (Memref.whole cc0_scratch12) (V.l2 c)) (qload 3 inb_S4x32x1024_S4x32x128_0_0_384 (Memref.whole cc0_scratch11) (V.z2 (nbrX c))) (cload 3 inb_S4x32x8_S4x32x1_0_0_3 (Memref.whole cc0_scratch13) (V.l2 (nbrX c)))
    · exact (mixO4 _ _ _ _).trans <| mixO_congr (qload 4 inb_S4x32x1024_S4x32x128_0_0_512 (Memref.whole cc0_scratch10) (V.z2 c)) (cload 4 inb_S4x32x8_S4x32x1_0_0_4 (Memref.whole cc0_scratch12) (V.l2 c)) (qload 4 inb_S4x32x1024_S4x32x128_0_0_512 (Memref.whole cc0_scratch11) (V.z2 (nbrX c))) (cload 4 inb_S4x32x8_S4x32x1_0_0_4 (Memref.whole cc0_scratch13) (V.l2 (nbrX c)))
    · exact (mixO5 _ _ _ _).trans <| mixO_congr (qload 5 inb_S4x32x1024_S4x32x128_0_0_640 (Memref.whole cc0_scratch10) (V.z2 c)) (cload 5 inb_S4x32x8_S4x32x1_0_0_5 (Memref.whole cc0_scratch12) (V.l2 c)) (qload 5 inb_S4x32x1024_S4x32x128_0_0_640 (Memref.whole cc0_scratch11) (V.z2 (nbrX c))) (cload 5 inb_S4x32x8_S4x32x1_0_0_5 (Memref.whole cc0_scratch13) (V.l2 (nbrX c)))
    · exact (mixO6 _ _ _ _).trans <| mixO_congr (qload 6 inb_S4x32x1024_S4x32x128_0_0_768 (Memref.whole cc0_scratch10) (V.z2 c)) (cload 6 inb_S4x32x8_S4x32x1_0_0_6 (Memref.whole cc0_scratch12) (V.l2 c)) (qload 6 inb_S4x32x1024_S4x32x128_0_0_768 (Memref.whole cc0_scratch11) (V.z2 (nbrX c))) (cload 6 inb_S4x32x8_S4x32x1_0_0_6 (Memref.whole cc0_scratch13) (V.l2 (nbrX c)))
    · exact (mixO7 _ _ _ _).trans <| mixO_congr (qload 7 inb_S4x32x1024_S4x32x128_0_0_896 (Memref.whole cc0_scratch10) (V.z2 c)) (cload 7 inb_S4x32x8_S4x32x1_0_0_7 (Memref.whole cc0_scratch12) (V.l2 c)) (qload 7 inb_S4x32x1024_S4x32x128_0_0_896 (Memref.whole cc0_scratch11) (V.z2 (nbrX c))) (cload 7 inb_S4x32x8_S4x32x1_0_0_7 (Memref.whole cc0_scratch13) (V.l2 (nbrX c)))

end Cert.KProof

end
-- ==== Proof.Init.lean ====
/- The first point's stretch: the barrier, and the running sums cleared. -/
module

public import proofs.«01_k».proof.Proof.Tail
public import Idealize.ShloMosaic.Lib.VecWindow

@[expose] public section

set_option maxRecDepth 4000
set_option maxHeartbeats 4000000

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A signal to a neighbour's barrier. -/
theorem signal_step {α : Type} (V : Vals F) (c c' c'' : Dev nD) (hc : c'' = c') (s' : Sem sig) (hs : s' = barrier0) (d : Bool) (κ : ℕ)
    (P : sProp 𝕄) (hP : (sched V).payload (barCell c') 0 d = P) (O : CellTallies nD τ sig Unit) (W : Waits sig Unit)
    (k : PUnit → Prog (TpuEff nD τ sig (Elt F) Λ₀ .tc) α) (Q : α → sProp 𝕄) :
    iprop(cellInv ER (sched V) κ (barCell c') ∗ owes (c : Thread nD τ) (O + tallyAt (barCell c') () 1) W
        ∗ dutyTok ER (barCell c') 0 d ∗ P ∗ reached ER (barCell c') 0
        ∗ (owes (c : Thread nD τ) O W -∗ wp frame (wpE (defs₀ (F := F)) Variants.none (c : Thread nD τ) none) Set.univ (k ⟨⟩) Q))
      ⊢ wp frame (wpE (defs₀ (F := F)) Variants.none (c : Thread nD τ) none) Set.univ
          (.op (.semSignal ((c'' : Dev nD), .tc) s' 1) k) Q := by
  subst hc hs hP
  iintro ⟨#HI, HO, Ht, HP, #Hr, Hk⟩
  iapply (Rounds.wp_signal Variants.none ER (sched V) (c : Thread nD τ) none (dst := (c'' : Thread nD τ)) (sem := barrier0) (r := 0) (d := d) (κ := κ)
      (by rw [duties_bar]; exact Finset.mem_univ _) rfl () O rfl (W := W)) $$ [HO Ht HP]
  · isplitr; · iexact HI
    isplitl [HO]; · iexact HO
    isplitl [Ht]; · iexact Ht
    isplitl [HP]; · iexact HP
    iexact Hr
  iintro HO
  iapply Hk $$ HO

/-- The wait on the own barrier: both neighbours' landing buffers come with it. -/
theorem barrier_step {α : Type} (V : Vals F) (c : Dev nD) (s' : Sem sig) (hs : s' = barrier0) (κ : ℕ) (O : CellTallies nD τ sig Unit) (W : Waits sig Unit)
    (hO : Above 1 O) (k : PUnit → Prog (TpuEff nD τ sig (Elt F) Λ₀ .tc) α) (Q : α → sProp 𝕄) :
    iprop(cellInv ER (sched V) κ (barCell c) ∗ cred (tallyAt (barCell c) () 2) ∗ owes (c : Thread nD τ) O W ∗ levAts L lv
        ∗ atPos ER (barCell c) 0 ∅ 0
        ∗ (barPayY (nbrY c) -∗ barPayX (nbrX c) -∗ owes (c : Thread nD τ) O (insert (SemLoc.reg barrier0, ()) W) -∗ atPos ER (barCell c) (0 + 1) ∅ 0 -∗
            wp frame (wpE (defs₀ (F := F)) Variants.none (c : Thread nD τ) none) Set.univ (k ⟨⟩) Q))
      ⊢ wp frame (wpE (defs₀ (F := F)) Variants.none (c : Thread nD τ) none) Set.univ (.op (.semWait s' 2) k) Q := by
  subst hs
  iintro ⟨#HI, Hc, HO, #Hlev, Hat, Hk⟩
  iapply (Rounds.wp_wait_rest_token Variants.none ER (sched V) (c : Thread nD τ) none (κ := κ)
      (wpE_semWait_eq Variants.none (c : Thread nD τ) none Set.univ) (Set.mem_univ _) () (O := O) (W := W) (R := 0) (m := 0) (T := ∅)
      ((Nat.zero_add _).trans (expect_bar V c).symm)) $$ [Hc HO Hat]
  · isplitr; · iexact HI
    isplitl [Hc]; · iexact Hc
    isplitl [HO]; · iexact HO
    isplitr; · iapply (mayWait c (.reg barrier0) hO); iexact Hlev
    iexact Hat
  iintro ⟨HO, Hat, -, Hp⟩
  ihave Hp := (rest_bar V c) $$ Hp
  icases Hp with ⟨HY, HX⟩
  iapply Hk $$ HY HX HO Hat

/-- What a device uses on the barriers. -/
def barToks (c : Dev nD) : sProp 𝕄 :=
  iprop(dutyTok ER (barCell (nbrY c)) 0 false ∗ dutyTok ER (barCell (nbrX c)) 0 true ∗ atPos ER (barCell c) 0 ∅ 0 ∗ cred (tallyAt (barCell c) () 2))

/-- The neighbours' barriers are open. -/
def barsOpen (c : Dev nD) : sProp 𝕄 := iprop(reached ER (barCell (nbrY c)) 0 ∗ reached ER (barCell (nbrX c)) 0)

instance barsOpen_persistent (c : Dev nD) : BI.Persistent (barsOpen (F := F) c) := by unfold barsOpen; infer_instance

/-- The first point's stretch: the barrier, and the running sums cleared. -/
theorem initRun (V : Vals F) (K : GSem nD τ sig → ℕ) (c : Dev nD) (i : grid0.Coords) (h1 : k0_cond1 i = 1#1) (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole)
   (g3 : Buf (Elt F) ((Memref.whole cc0_scratch3).view.loc (c : Thread nD τ))) (g4 : Buf (Elt F) ((Memref.whole cc0_scratch4).view.loc (c : Thread nD τ))) (g5 : Buf (Elt F) ((Memref.whole cc0_scratch5).view.loc (c : Thread nD τ))) (W : Waits sig Unit)
   (Q : PUnit → sProp 𝕄) :
   iprop((held c (Memref.whole cc0_scratch3) g3 ∗ held c (Memref.whole cc0_scratch4) g4 ∗ held c (Memref.whole cc0_scratch5) g5)
      ∗ barPayY c ∗ barPayX c ∗ invs V K c ∗ barToks c ∗ barsOpen c ∗ levAts L lv ∗ owes (c : Thread nD τ) (O₀ c) W
      ∗ ((held c (Memref.whole cc0_scratch3) (k0_pay91 (F := F)) ∗ held c (Memref.whole cc0_scratch4) (k0_pay92 (F := F)) ∗ held c (Memref.whole cc0_scratch5) (k0_pay93 (F := F)))
          -∗ barPayY (nbrY c) -∗ barPayX (nbrX c) -∗ atPos ER (barCell c) (0 + 1) ∅ 0 -∗ (∃ W', owes (c : Thread nD τ) (owedMid c) W')
          -∗ Q ⟨⟩))
   ⊢ wp frame (wpE (defs₀ (F := F)) Variants.none (c : Thread nD τ) none) Set.univ
            (initAt i arg1 harg1 arg2 harg2 arg3 harg3 arg4 harg4 arg5 harg5 c h1) Q := by
  unfold initAt initProg invs barToks barsOpen O₀
  iintro ⟨⟨A3, A4, A5⟩, HY, HX, ⟨-, ⟨#IB, #IBY, #IBX⟩, -⟩, ⟨TY, TX, PB, CB⟩, ⟨#RY, #RX⟩, #Hlev, HO, Hk⟩
  iapply (signal_step V c (nbrY c) _ (Fin.ext (k0_dev1_eq c)) _ rfl false (K (barCell (nbrY c))) (barPayY (nbrY (nbrY c))) rfl
      (owedMid c + tallyAt (barCell (nbrX c)) () 1) _)
  isplitr; · iexact IBY
  isplitl [HO]; · iexact HO
  isplitl [TY]; · iexact TY
  isplitl [HY]; · rw [nbrY_nbrY]; iexact HY
  isplitr; · iexact RY
  iintro HO
  iapply (signal_step V c (nbrX c) _ (Fin.ext (k0_dev2_eq c)) _ rfl true (K (barCell (nbrX c))) (barPayX (nbrX (nbrX c))) rfl (owedMid c) _)
  isplitr; · iexact IBX
  isplitl [HO]; · iexact HO
  isplitl [TX]; · iexact TX
  isplitl [HX]; · rw [nbrX_nbrX]; iexact HX
  isplitr; · iexact RX
  iintro HO
  iapply (barrier_step V c _ rfl (K (barCell c)) (owedMid c) _ (above_owedMid c 1 (by decide)))
  isplitr; · iexact IB
  isplitl [CB]; · iexact CB
  isplitl [HO]; · iexact HO
  isplitr; · iexact Hlev
  isplitl [PB]; · iexact PB
  iintro HY HX HO PB
  dsimp only [ret_then]
  sl_exec
  ihave A3 := (named c (Memref.whole cc0_scratch3) (k0_pay91 (F := F))) $$ [A3]
  · iexists _
    isplitl [A3]; · iexact A3
    ipureintro
    exact own_store cc0_scratch3 _ _ _ _ _ rfl
  ihave A4 := (named c (Memref.whole cc0_scratch4) (k0_pay92 (F := F))) $$ [A4]
  · iexists _
    isplitl [A4]; · iexact A4
    ipureintro
    exact own_store cc0_scratch4 _ _ _ _ _ rfl
  ihave A5 := (named c (Memref.whole cc0_scratch5) (k0_pay93 (F := F))) $$ [A5]
  · iexists _
    isplitl [A5]; · iexact A5
    ipureintro
    exact own_store cc0_scratch5 _ _ _ _ _ rfl
  rw [wp_ret]
  imodintro
  iapply Hk $$ [A3 A4 A5] HY HX PB [HO]
  · isplitl [A3]; · iexact A3
    isplitl [A4]; · iexact A4
    iexact A5
  · iexists _; iexact HO

end Cert.KProof

end
-- ==== Proof.CoreValues.lean ====
/- The contents that the shared stretch leaves, in terms of the blocks and of the sums before. -/
module

public import proofs.«01_k».proof.Proof.Values

@[expose] public section

noncomputable section

namespace Cert.KProof

open Cert.KernelIdeal Cert.KernelIdeal.Gen
open Idealize.ShloMosaic Idealize.ShloMosaic.TcCoe

variable {F : FTy → Type} [FloatOps F]

section Pieces

variable (q : FVec F S4x32x128 .f32) (k v : FVec F S1x4x512x128 .f32) (m l : FVec F S4x32x1 .f32) (a : FVec F S4x32x128 .f32)

theorem pieceM0 : k0_pay101 m (k0_pay96 q k) = headM q k m := rfl
theorem pieceL0 : k0_pay102 (k0_pay95 q k) m l (k0_pay96 q k) = headL q k m l := rfl
theorem pieceA0 : k0_pay100 (k0_pay94 v) (k0_pay95 q k) m (k0_pay96 q k) a = headA q k v m a := rfl
theorem pieceM1 : k0_pay110 (k0_pay105 q k m) = headM q k m := rfl
theorem pieceL1 : k0_pay111 (k0_pay108 q k m l) = headL q k m l := rfl
theorem pieceA1 : k0_pay109 (k0_pay103 v) (k0_pay106 q k m) (k0_pay107 q k m) a = headA q k v m a := rfl
theorem pieceM2 : k0_pay119 (k0_pay113 q k m) = headM q k m := rfl
theorem pieceL2 : k0_pay120 (k0_pay116 q k m l) = headL q k m l := rfl
theorem pieceA2 : k0_pay118 (k0_pay117 q k v m a) = headA q k v m a := rfl
theorem pieceM3 : k0_pay128 (k0_pay121 q) k m = headM q k m := rfl
theorem pieceL3 : k0_pay129 (k0_pay126 (k0_pay121 q) k m l) = headL q k m l := rfl
theorem pieceA3 : k0_pay127 (k0_pay121 q) k v m a = headA q k v m a := rfl
theorem pieceM4 : k0_pay138 (k0_pay130 q) (k0_pay131 k) m = headM q k m := rfl
theorem pieceL4 : k0_pay139 (k0_pay130 q) (k0_pay131 k) m l = headL q k m l := rfl
theorem pieceA4 : k0_pay137 (k0_pay130 q) (k0_pay131 k) (k0_pay132 v) m a = headA q k v m a := rfl
theorem pieceM5 : k0_pay147 m (k0_pay142 q k) = headM q k m := rfl
theorem pieceL5 : k0_pay148 (k0_pay141 q k) m l (k0_pay142 q k) = headL q k m l := rfl
theorem pieceA5 : k0_pay146 (k0_pay140 v) (k0_pay141 q k) m (k0_pay142 q k) a = headA q k v m a := rfl
theorem pieceM6 : k0_pay156 (k0_pay151 q k m) = headM q k m := rfl
theorem pieceL6 : k0_pay157 (k0_pay154 q k m l) = headL q k m l := rfl
theorem pieceA6 : k0_pay155 (k0_pay149 v) (k0_pay152 q k m) (k0_pay153 q k m) a = headA q k v m a := rfl
theorem pieceM7 : k0_pay2 (k0_pay159 q k m) = headM q k m := rfl
theorem pieceL7 : k0_pay3 (k0_pay162 q k m l) = headL q k m l := rfl
theorem pieceA7 : k0_pay1 (k0_pay163 q k v m a) = headA q k v m a := rfl

end Pieces

variable (c : Dev nD) (arg2 : Memref sig .tc .vmem S4x32x1024 .f32) (arg3 arg4 : Memref sig .tc .vmem S4x512x8x128 .f32)
  (f2 : Buf (Elt F) (arg2.view.loc (c : Thread nD τ))) (f3 : Buf (Elt F) (arg3.view.loc (c : Thread nD τ))) (f4 : Buf (Elt F) (arg4.view.loc (c : Thread nD τ)))
  (f6 : Buf (Elt F) ((Memref.whole cc0_scratch0).view.loc (c : Thread nD τ))) (f7 : Buf (Elt F) ((Memref.whole cc0_scratch1).view.loc (c : Thread nD τ)))

variable (i : grid0.Coords) (arg1 : Memref sig .tc .smem S1 .i32) (harg1 : arg1.IsWhole) (harg2 : arg2.IsWhole) (harg3 : arg3.IsWhole) (harg4 : arg4.IsWhole) (arg5 : Memref sig .tc .vmem S4x32x1024 .f32) (harg5 : arg5.IsWhole) (g3 : Buf (Elt F) ((Memref.whole cc0_scratch3).view.loc (c : Thread nD τ))) (g4 : Buf (Elt F) ((Memref.whole cc0_scratch4).view.loc (c : Thread nD τ))) (g5 : Buf (Elt F) ((Memref.whole cc0_scratch5).view.loc (c : Thread nD τ)))

theorem core_M : (Memref.whole cc0_scratch4).view.read (Elt F) (coreRaw c i arg1 harg1 arg2 harg2 arg3 harg3 arg4 harg4 arg5 harg5 f2 f3 f4 f6 f7 g3 g4 g5).1.2.2.2.1
    = stepM (arg2.view.read (Elt F) f2) (arg3.view.read (Elt F) f3) ((Memref.whole cc0_scratch4).view.read (Elt F) g4) := by
  dsimp only [coreRaw]
  refine read_cols (Memref.whole cc0_scratch4).view g4 _ _ _ _ _ _ _ _ _ ?_ ?_ ?_ ?_ ?_ ?_ ?_ ?_
  · exact (pieceM0 _ _ _).trans <| headM_congr (qload 0 inb_S4x32x1024_S4x32x128_0_0_0 arg2 f2) (kload0 c arg3 f3 f6) (cload 0 inb_S4x32x8_S4x32x1_0_0_0 (Memref.whole cc0_scratch4) g4)
  · exact (pieceM1 _ _ _).trans <| headM_congr (qload 1 inb_S4x32x1024_S4x32x128_0_0_128 arg2 f2) (kload1 c arg3 f3 f6) (cload 1 inb_S4x32x8_S4x32x1_0_0_1 (Memref.whole cc0_scratch4) g4)
  · exact (pieceM2 _ _ _).trans <| headM_congr (qload 2 inb_S4x32x1024_S4x32x128_0_0_256 arg2 f2) (kload2 c arg3 f3 f6) (cload 2 inb_S4x32x8_S4x32x1_0_0_2 (Memref.whole cc0_scratch4) g4)
  · exact (pieceM3 _ _ _).trans <| headM_congr (qload 3 inb_S4x32x1024_S4x32x128_0_0_384 arg2 f2) (kload3 c arg3 f3 f6) (cload 3 inb_S4x32x8_S4x32x1_0_0_3 (Memref.whole cc0_scratch4) g4)
  · exact (pieceM4 _ _ _).trans <| headM_congr (qload 4 inb_S4x32x1024_S4x32x128_0_0_512 arg2 f2) (kload4 c arg3 f3 f6) (cload 4 inb_S4x32x8_S4x32x1_0_0_4 (Memref.whole cc0_scratch4) g4)
  · exact (pieceM5 _ _ _).trans <| headM_congr (qload 5 inb_S4x32x1024_S4x32x128_0_0_640 arg2 f2) (kload5 c arg3 f3 f6) (cload 5 inb_S4x32x8_S4x32x1_0_0_5 (Memref.whole cc0_scratch4) g4)
  · exact (pieceM6 _ _ _).trans <| headM_congr (qload 6 inb_S4x32x1024_S4x32x128_0_0_768 arg2 f2) (kload6 c arg3 f3 f6) (cload 6 inb_S4x32x8_S4x32x1_0_0_6 (Memref.whole cc0_scratch4) g4)
  · exact (pieceM7 _ _ _).trans <| headM_congr (qload 7 inb_S4x32x1024_S4x32x128_0_0_896 arg2 f2) (kload7 c arg3 f3 f6) (cload 7 inb_S4x32x8_S4x32x1_0_0_7 (Memref.whole cc0_scratch4) g4)

theorem core_L : (Memref.whole cc0_scratch5).view.read (Elt F) (coreRaw c i arg1 harg1 arg2 harg2 arg3 harg3 arg4 harg4 arg5 harg5 f2 f3 f4 f6 f7 g3 g4 g5).1.2.2.2.2
    = stepL (arg2.view.read (Elt F) f2) (arg3.view.read (Elt F) f3) ((Memref.whole cc0_scratch4).view.read (Elt F) g4) ((Memref.whole cc0_scratch5).view.read (Elt F) g5) := by
  dsimp only [coreRaw]
  refine read_cols (Memref.whole cc0_scratch5).view g5 _ _ _ _ _ _ _ _ _ ?_ ?_ ?_ ?_ ?_ ?_ ?_ ?_
  · exact (pieceL0 _ _ _ _).trans <| headL_congr (qload 0 inb_S4x32x1024_S4x32x128_0_0_0 arg2 f2) (kload0 c arg3 f3 f6) (cload 0 inb_S4x32x8_S4x32x1_0_0_0 (Memref.whole cc0_scratch4) g4) (cload 0 inb_S4x32x8_S4x32x1_0_0_0 (Memref.whole cc0_scratch5) g5)
  · exact (pieceL1 _ _ _ _).trans <| headL_congr (qload 1 inb_S4x32x1024_S4x32x128_0_0_128 arg2 f2) (kload1 c arg3 f3 f6) (cload 1 inb_S4x32x8_S4x32x1_0_0_1 (Memref.whole cc0_scratch4) g4) (cload 1 inb_S4x32x8_S4x32x1_0_0_1 (Memref.whole cc0_scratch5) g5)
  · exact (pieceL2 _ _ _ _).trans <| headL_congr (qload 2 inb_S4x32x1024_S4x32x128_0_0_256 arg2 f2) (kload2 c arg3 f3 f6) (cload 2 inb_S4x32x8_S4x32x1_0_0_2 (Memref.whole cc0_scratch4) g4) (cload 2 inb_S4x32x8_S4x32x1_0_0_2 (Memref.whole cc0_scratch5) g5)
  · exact (pieceL3 _ _ _ _).trans <| headL_congr (qload 3 inb_S4x32x1024_S4x32x128_0_0_384 arg2 f2) (kload3 c arg3 f3 f6) (cload 3 inb_S4x32x8_S4x32x1_0_0_3 (Memref.whole cc0_scratch4) g4) (cload 3 inb_S4x32x8_S4x32x1_0_0_3 (Memref.whole cc0_scratch5) g5)
  · exact (pieceL4 _ _ _ _).trans <| headL_congr (qload 4 inb_S4x32x1024_S4x32x128_0_0_512 arg2 f2) (kload4 c arg3 f3 f6) (cload 4 inb_S4x32x8_S4x32x1_0_0_4 (Memref.whole cc0_scratch4) g4) (cload 4 inb_S4x32x8_S4x32x1_0_0_4 (Memref.whole cc0_scratch5) g5)
  · exact (pieceL5 _ _ _ _).trans <| headL_congr (qload 5 inb_S4x32x1024_S4x32x128_0_0_640 arg2 f2) (kload5 c arg3 f3 f6) (cload 5 inb_S4x32x8_S4x32x1_0_0_5 (Memref.whole cc0_scratch4) g4) (cload 5 inb_S4x32x8_S4x32x1_0_0_5 (Memref.whole cc0_scratch5) g5)
  · exact (pieceL6 _ _ _ _).trans <| headL_congr (qload 6 inb_S4x32x1024_S4x32x128_0_0_768 arg2 f2) (kload6 c arg3 f3 f6) (cload 6 inb_S4x32x8_S4x32x1_0_0_6 (Memref.whole cc0_scratch4) g4) (cload 6 inb_S4x32x8_S4x32x1_0_0_6 (Memref.whole cc0_scratch5) g5)
  · exact (pieceL7 _ _ _ _).trans <| headL_congr (qload 7 inb_S4x32x1024_S4x32x128_0_0_896 arg2 f2) (kload7 c arg3 f3 f6) (cload 7 inb_S4x32x8_S4x32x1_0_0_7 (Memref.whole cc0_scratch4) g4) (cload 7 inb_S4x32x8_S4x32x1_0_0_7 (Memref.whole cc0_scratch5) g5)

theorem core_A : (Memref.whole cc0_scratch3).view.read (Elt F) (coreRaw c i arg1 harg1 arg2 harg2 arg3 harg3 arg4 harg4 arg5 harg5 f2 f3 f4 f6 f7 g3 g4 g5).1.2.2.1
    = stepA (arg2.view.read (Elt F) f2) (arg3.view.read (Elt F) f3) (arg4.view.read (Elt F) f4) ((Memref.whole cc0_scratch4).view.read (Elt F) g4) ((Memref.whole cc0_scratch3).view.read (Elt F) g3) := by
  dsimp only [coreRaw]
  refine read_lanes (Memref.whole cc0_scratch3).view g3 _ _ _ _ _ _ _ _ _ ?_ ?_ ?_ ?_ ?_ ?_ ?_ ?_
  · exact (pieceA0 _ _ _ _ _).trans <| headA_congr (qload 0 inb_S4x32x1024_S4x32x128_0_0_0 arg2 f2) (kload0 c arg3 f3 f6) (vload0 c arg4 f4 f7) (cload 0 inb_S4x32x8_S4x32x1_0_0_0 (Memref.whole cc0_scratch4) g4) (qload 0 inb_S4x32x1024_S4x32x128_0_0_0 (Memref.whole cc0_scratch3) g3)
  · exact (pieceA1 _ _ _ _ _).trans <| headA_congr (qload 1 inb_S4x32x1024_S4x32x128_0_0_128 arg2 f2) (kload1 c arg3 f3 f6) (vload1 c arg4 f4 f7) (cload 1 inb_S4x32x8_S4x32x1_0_0_1 (Memref.whole cc0_scratch4) g4) (qload 1 inb_S4x32x1024_S4x32x128_0_0_128 (Memref.whole cc0_scratch3) g3)
  · exact (pieceA2 _ _ _ _ _).trans <| headA_congr (qload 2 inb_S4x32x1024_S4x32x128_0_0_256 arg2 f2) (kload2 c arg3 f3 f6) (vload2 c arg4 f4 f7) (cload 2 inb_S4x32x8_S4x32x1_0_0_2 (Memref.whole cc0_scratch4) g4) (qload 2 inb_S4x32x1024_S4x32x128_0_0_256 (Memref.whole cc0_scratch3) g3)
  · exact (pieceA3 _ _ _ _ _).trans <| headA_congr (qload 3 inb_S4x32x1024_S4x32x128_0_0_384 arg2 f2) (kload3 c arg3 f3 f6) (vload3 c arg4 f4 f7) (cload 3 inb_S4x32x8_S4x32x1_0_0_3 (Memref.whole cc0_scratch4) g4) (qload 3 inb_S4x32x1024_S4x32x128_0_0_384 (Memref.whole cc0_scratch3) g3)
  · exact (pieceA4 _ _ _ _ _).trans <| headA_congr (qload 4 inb_S4x32x1024_S4x32x128_0_0_512 arg2 f2) (kload4 c arg3 f3 f6) (vload4 c arg4 f4 f7) (cload 4 inb_S4x32x8_S4x32x1_0_0_4 (Memref.whole cc0_scratch4) g4) (qload 4 inb_S4x32x1024_S4x32x128_0_0_512 (Memref.whole cc0_scratch3) g3)
  · exact (pieceA5 _ _ _ _ _).trans <| headA_congr (qload 5 inb_S4x32x1024_S4x32x128_0_0_640 arg2 f2) (kload5 c arg3 f3 f6) (vload5 c arg4 f4 f7) (cload 5 inb_S4x32x8_S4x32x1_0_0_5 (Memref.whole cc0_scratch4) g4) (qload 5 inb_S4x32x1024_S4x32x128_0_0_640 (Memref.whole cc0_scratch3) g3)
  · exact (pieceA6 _ _ _ _ _).trans <| headA_congr (qload 6 inb_S4x32x1024_S4x32x128_0_0_768 arg2 f2) (kload6 c arg3 f3 f6) (vload6 c arg4 f4 f7) (cload 6 inb_S4x32x8_S4x32x1_0_0_6 (Memref.whole cc0_scratch4) g4) (qload 6 inb_S4x32x1024_S4x32x128_0_0_768 (Memref.whole cc0_scratch3) g3)
  · exact (pieceA7 _ _ _ _ _).trans <| headA_congr (qload 7 inb_S4x32x1024_S4x32x128_0_0_896 arg2 f2) (kload7 c arg3 f3 f6) (vload7 c arg4 f4 f7) (cload 7 inb_S4x32x8_S4x32x1_0_0_7 (Memref.whole cc0_scratch4) g4) (qload 7 inb_S4x32x1024_S4x32x128_0_0_896 (Memref.whole cc0_scratch3) g3)

end Cert.KProof

end
-- ==== Proof.State.lean ====
/- What the run computes on each device: the table, the blocks the grid points read, the running sums, what the
   exchanges carry, the output. -/
module

public import proofs.«01_k».proof.Proof.Init
public import proofs.«01_k».proof.Proof.CoreValues
public import proofs.«01_k».proof.Proof.Gen.KernelIdeal.Regions
public import Idealize.ShloMosaic.Lib.VecWindow

@[expose] public section

set_option maxRecDepth 4000
set_option maxHeartbeats 1000000

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- The word the host computes for the table: a device's place along `y`. -/
def yWord (c : Dev nD) : BitVec 32 := Host.remui (Host.divui (constantI S_ 32 (Dev.word c)) (constantI S_ 32 1#32)) (constantI S_ 32 2#32) (fun a => a.elim0)

theorem yWord_eq : ∀ c : Dev nD, yWord c = BitVec.ofNat 32 (c.val % 2) := by decide +kernel

theorem V1_table : (V1 m c main_v5 : S1.Idx → BitVec 32) = fun _ => yWord c := by
  funext i
  rfl

/-- The table a device's pipeline reads. -/
def tab : pre0.Contents (Elt F) := fun k => V1 m c (pre0.ref k)

theorem tab_at : (tab m c).at 0 (Rect.unit (s := S1) ![0] S1.size inb_S1_S1_0) numel1_S1 = yWord c := rfl

theorem blockWord : ∀ (c : Dev nD) (j : Fin 4),
    (Scalar.addi (Scalar.muli (yWord c) 4#32) (BitVec.ofNat 32 j.val)).toNat = 4 * (c.val % 2) + j.val := by decide +kernel

/-- The block of keys a grid point reads: of the half the table names, the point's own quarter. -/
theorem transform1_eq (i : grid0.Coords) :
    cc0_transform_1 inb_S1_S1_0 numel1_S1 (tab m c) i = ![0, 4 * (c.val % 2) + (i 0).val, 0, 0] := by
  show ![0, (Scalar.addi (Scalar.muli (yWord c) 4#32) (BitVec.ofNat 32 (i 0).val)).toNat, 0, 0] = _
  rw [blockWord c (i 0)]
/-- The block of values is the same. -/
theorem transform2_eq (i : grid0.Coords) :
    cc0_transform_2 inb_S1_S1_0 numel1_S1 (tab m c) i = ![0, 4 * (c.val % 2) + (i 0).val, 0, 0] := by
  show ![0, (Scalar.addi (Scalar.muli (yWord c) 4#32) (BitVec.ofNat 32 (i 0).val)).toNat, 0, 0] = _
  rw [blockWord c (i 0)]

theorem block_inside (y j : ℕ) (hy : y < 2) (hj : j < 4) :
    ∀ a, ((![0, 4 * y + j, 0, 0] : Fin 4 → ℕ) a + 1) * S4x512x8x128.size a ≤ S4x4096x8x128.size a := by
  interval_cases y <;> interval_cases j <;> decide

theorem tab_ok : ok0 (tab m c) := by
  refine ⟨fun i => ⟨?_, .inl rfl⟩, fun i => ⟨?_, .inl rfl⟩⟩
  · rw [transform1_eq]; exact block_inside _ _ (Nat.mod_lt _ (by decide)) (i 0).isLt
  · rw [transform2_eq]; exact block_inside _ _ (Nat.mod_lt _ (by decide)) (i 0).isLt

/-- The tables of every device, as the pipeline takes them. -/
def adm (c : Dev nD) : (p : Fin 1) → (pcfgs (F := F) p).Adm := fun _ => ⟨tab m c, tab_ok m c⟩

/-- The pipeline a device runs. -/
abbrev cfgOf (c : Dev nD) : Pipeline.Cfg sig Λ₀ := cfg0 (adm m c 0)

/-! ## The blocks -/

/-- What each window's array holds at entry. -/
def arrV (w : Fin 4) : Buf (Elt F) (((cfgOf m c).win w).arr.view.loc (c : Thread nD τ)) := V1 m c (Pipeline.arrRef (cfgOf m c).spec w)

/-- The query, -/
def qBlk (t : Fin grid0.N) : FVec F S4x32x1024 .f32 := (((cfgOf m c).win 0).blk t).view.read (Elt F) (arrV m c 0)
/-- the keys of a grid point -/
def kBlk (t : Fin grid0.N) : FVec F S4x512x8x128 .f32 := (((cfgOf m c).win 1).blk t).view.read (Elt F) (arrV m c 1)
/-- and its values. -/
def vBlk (t : Fin grid0.N) : FVec F S4x512x8x128 .f32 := (((cfgOf m c).win 2).blk t).view.read (Elt F) (arrV m c 2)

/-- The running maxima, denominators and numerators after some points, -/
structure Run (F : FTy → Type) [FloatOps F] where
  a : FVec F S4x32x1024 .f32
  m : FVec F S4x32x8 .f32
  l : FVec F S4x32x8 .f32

/-- cleared at first -/
def run0 : Run F := ⟨k0_pay91, k0_pay92, k0_pay93⟩
/-- and taken on by a point's block. -/
def Run.step (r : Run F) (q : FVec F S4x32x1024 .f32) (k v : FVec F S4x512x8x128 .f32) : Run F :=
  ⟨stepA q k v r.m r.a, stepM q k r.m, stepL q k r.m r.l⟩

/-- The running sums before a point. -/
def runAt : ℕ → Run F
  | 0 => run0
  | n + 1 => if h : n < grid0.N then (runAt n).step (qBlk m c ⟨n, h⟩) (kBlk m c ⟨n, h⟩) (vBlk m c ⟨n, h⟩) else runAt n

theorem runAt_succ (t : Fin grid0.N) : runAt m c (t.val + 1) = (runAt m c t.val).step (qBlk m c t) (kBlk m c t) (vBlk m c t) := by
  rw [runAt, dif_pos t.isLt]

/-! ## The exchanges -/

/-- What each device's exchanges carry. -/
def vals : Vals F where
  z1 c := z1Of (runAt m c 4).a (runAt m c 4).l
  l1 c := l1Of (runAt m c 4).m (runAt m c 4).l
  z2 c := z2Of (z1Of (runAt m c 4).a (runAt m c 4).l) (l1Of (runAt m c 4).m (runAt m c 4).l)
    (z1Of (runAt m (nbrY c) 4).a (runAt m (nbrY c) 4).l) (l1Of (runAt m (nbrY c) 4).m (runAt m (nbrY c) 4).l)
  l2 c := l2Of (l1Of (runAt m c 4).m (runAt m c 4).l) (l1Of (runAt m (nbrY c) 4).m (runAt m (nbrY c) 4).l)

theorem fits : Fits (vals m) c (runAt m c 4).a (runAt m c 4).m (runAt m c 4).l := ⟨rfl, rfl, rfl, rfl⟩

/-- What a device's output block holds in the end. -/
def outV : FVec F S4x32x1024 .f32 := outOf ((vals m).z2 c) ((vals m).l2 c) ((vals m).z2 (nbrX c)) ((vals m).l2 (nbrX c))

end Cert.KProof
-- ==== Proof.Points.lean ====
/- The body at each grid point, over what the run keeps from point to point. -/
module

public import proofs.«01_k».proof.Proof.State

@[expose] public section

set_option maxRecDepth 4000
set_option maxHeartbeats 1000000

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- A scratch buffer at some contents. -/
abbrev anyS (c : Dev nD) (b : Ref sig .tc) : sProp 𝕄 := iprop(∃ f : Buf (Elt F) ((c : Thread nD τ).loc b), ((c : Thread nD τ).loc b) ↦{fullShare} f)

/-- The exchange's own counters at zero. -/
def xSems (c : Dev nD) : sProp 𝕄 :=
  iprop(semVal (cell 22 c) 0 ∗ semVal (cell 23 c) 0 ∗ semVal (cell 24 c) 0 ∗ semVal (cell 25 c) 0 ∗ semVal (cell 26 c) 0 ∗ semVal (cell 27 c) 0 ∗ semVal (cell 28 c) 0 ∗ semVal (cell 29 c) 0)

/-- The receiving cells' rounds are open. -/
def recvsOpen (c : Dev nD) : sProp 𝕄 :=
  iprop(reached ER (cell 26 c) 0 ∗ reached ER (cell 27 c) 0 ∗ reached ER (cell 28 c) 0 ∗ reached ER (cell 29 c) 0)

/-- What a device keeps of the exchange until the last point. -/
def keep (V : Vals F) (K : GSem nD τ sig → ℕ) (c : Dev nD) : sProp 𝕄 :=
  iprop(invs V K c ∗ sendToks c ∗ sendsOpen c ∗ spots c 0 ∗ recvCreds c ∗ copySems c ∗ levAts L lv)

/-- What a device enters its pipeline with. -/
def startX (V : Vals F) (c : Dev nD) : sProp 𝕄 :=
  iprop(∃ K, keep V K c ∗ barToks c ∗ barsOpen c ∗ recvsOpen c)

/-- The scratch a device starts from and ends with. -/
def scratch (c : Dev nD) : sProp 𝕄 :=
  iprop(anyS c cc0_scratch0 ∗ anyS c cc0_scratch1 ∗ anyS c cc0_scratch3 ∗ anyS c cc0_scratch4 ∗ anyS c cc0_scratch5 ∗ anyS c cc0_scratch6 ∗ anyS c cc0_scratch7 ∗ anyS c cc0_scratch8 ∗ anyS c cc0_scratch9 ∗ anyS c cc0_scratch10 ∗ anyS c cc0_scratch11 ∗ anyS c cc0_scratch12 ∗ anyS c cc0_scratch13)

/-- The running sums. -/
def sums (r : Run F) (c : Dev nD) : sProp 𝕄 :=
  iprop(held c (Memref.whole cc0_scratch3) r.a ∗ held c (Memref.whole cc0_scratch4) r.m ∗ held c (Memref.whole cc0_scratch5) r.l)

/-- What a device holds between points. -/
def between (V : Vals F) (r : Run F) (c : Dev nD) : sProp 𝕄 :=
  iprop((∃ K, keep V K c ∗ atPos ER (barCell c) (0 + 1) ∅ 0) ∗ barPayY (nbrY c) ∗ barPayX (nbrX c)
    ∗ (anyS c cc0_scratch0 ∗ anyS c cc0_scratch1 ∗ sums r c)
    ∗ anyS c cc0_scratch6 ∗ anyS c cc0_scratch8 ∗ anyS c cc0_scratch10 ∗ anyS c cc0_scratch12)

/-- What a device holds in the end. -/
def finish (c : Dev nD) : sProp 𝕄 :=
  iprop(semVal (barCell c) 0 ∗ (copySems c ∗ xSems c) ∗ scratch c)

/-- One stretch after another, -/
theorem run_bind {α β : Type} (p : Prog (TpuEff nD τ sig (Elt F) Λ₀ .tc) α) (k : α → Prog (TpuEff nD τ sig (Elt F) Λ₀ .tc) β) (Q : β → sProp 𝕄) :
    wp frame (wpE (defs₀ (F := F)) Variants.none (c : Thread nD τ) none) Set.univ (p.bind k) Q = wp frame (wpE (defs₀ (F := F)) Variants.none (c : Thread nD τ) none) Set.univ p fun x => wp frame (wpE (defs₀ (F := F)) Variants.none (c : Thread nD τ) none) Set.univ (k x) Q := wp_bind _ _ _ p k Q
/-- and the end. -/
theorem run_pure {α : Type} (x : α) (Q : α → sProp 𝕄) :
    wp frame (wpE (defs₀ (F := F)) Variants.none (c : Thread nD τ) none) Set.univ (pure x) Q = iprop(|={Set.univ}=> Q x) := wp_ret _ _ _ x Q

/-- A point's step of the running sums. -/
theorem coreStep (i : grid0.Coords) (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole)
    (f2 : Buf (Elt F) (arg2.view.loc (c : Thread nD τ))) (f3 : Buf (Elt F) (arg3.view.loc (c : Thread nD τ))) (f4 : Buf (Elt F) (arg4.view.loc (c : Thread nD τ)))
    (r : Run F) (O : CellTallies nD τ sig Unit) (hO : Above 0 O) (W : Waits sig Unit)
    (k : Prog (TpuEff nD τ sig (Elt F) Λ₀ .tc) PUnit) (Q : PUnit → sProp 𝕄) :
    iprop((held c arg2 f2 ∗ held c arg3 f3 ∗ held c arg4 f4) ∗ (anyS c cc0_scratch0 ∗ anyS c cc0_scratch1 ∗ sums r c) ∗ copySems c
        ∗ levAts L lv ∗ owes (c : Thread nD τ) O W
        ∗ ((held c arg2 f2 ∗ held c arg3 f3 ∗ held c arg4 f4)
            -∗ (anyS c cc0_scratch0 ∗ anyS c cc0_scratch1 ∗ sums (r.step (arg2.view.read (Elt F) f2) (arg3.view.read (Elt F) f3) (arg4.view.read (Elt F) f4)) c)
            -∗ copySems c -∗ (∃ W', owes (c : Thread nD τ) O W') -∗ wp frame (wpE (defs₀ (F := F)) Variants.none (c : Thread nD τ) none) Set.univ k Q))
      ⊢ wp frame (wpE (defs₀ (F := F)) Variants.none (c : Thread nD τ) none) Set.univ (coreAt i arg1 harg1 arg2 harg2 arg3 harg3 arg4 harg4 arg5 harg5 k) Q := by
  unfold sums
  iintro ⟨⟨H2, H3, H4⟩, ⟨⟨%f6, S0⟩, ⟨%f7, S1⟩, A3, A4, A5⟩, HS, #Hlev, HO, Hk⟩
  iapply ((coreRaw c i arg1 harg1 arg2 harg2 arg3 harg3 arg4 harg4 arg5 harg5 f2 f3 f4 f6 f7 r.a r.m r.l).2 O W (levAts L lv)
    (fun s hs => mayWait c (.dma s) (by
      have : lvOf (.dma s : SemLoc sig) = 0 := if_pos (by omega)
      rw [this]; exact hO)) k Q)
  isplitl [H2 H3 H4 S0 S1 A3 A4 A5 HS]
  · isplitl [H2]; · iexact H2
    isplitl [H3]; · iexact H3
    isplitl [H4]; · iexact H4
    isplitl [S0]; · iexact S0
    isplitl [S1]; · iexact S1
    isplitl [A3]; · iexact A3
    isplitl [A4]; · iexact A4
    isplitl [A5]; · iexact A5
    iexact HS
  isplitl [HO]; · iexact HO
  isplitr; · iexact Hlev
  iintro H2 H3 H4 S0 S1 A3 A4 A5 HS HO -
  iapply Hk $$ [H2 H3 H4] [S0 S1 A3 A4 A5] HS HO
  · isplitl [H2]; · iexact H2
    isplitl [H3]; · iexact H3
    iexact H4
  · isplitl [S0]; · iexists _; iexact S0
    isplitl [S1]; · iexists _; iexact S1
    isplitl [A3]
    · rw [own_writes cc0_scratch3 _ _ (core_A c arg2 arg3 arg4 f2 f3 f4 f6 f7 i arg1 harg1 harg2 harg3 harg4 arg5 harg5 r.a r.m r.l)]; iexact A3
    isplitl [A4]
    · rw [own_writes cc0_scratch4 _ _ (core_M c arg2 arg3 arg4 f2 f3 f4 f6 f7 i arg1 harg1 harg2 harg3 harg4 arg5 harg5 r.a r.m r.l)]; iexact A4
    rw [own_writes cc0_scratch5 _ _ (core_L c arg2 arg3 arg4 f2 f3 f4 f6 f7 i arg1 harg1 harg2 harg3 harg4 arg5 harg5 r.a r.m r.l)]; iexact A5

/-- The first point. -/
theorem firstRun (V : Vals F) (i : grid0.Coords) (h1 : k0_cond1 i = 1#1) (h2 : ¬ k0_cond2 i = 1#1) (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole)
    (f2 : Buf (Elt F) (arg2.view.loc (c : Thread nD τ))) (f3 : Buf (Elt F) (arg3.view.loc (c : Thread nD τ))) (f4 : Buf (Elt F) (arg4.view.loc (c : Thread nD τ)))
    (W : Waits sig Unit) (Q : PUnit → sProp 𝕄) :
    iprop((held c arg2 f2 ∗ held c arg3 f3 ∗ held c arg4 f4) ∗ startX V c ∗ scratch c ∗ owes (c : Thread nD τ) (O₀ c) W
        ∗ ((held c arg2 f2 ∗ held c arg3 f3 ∗ held c arg4 f4)
            -∗ between V (run0.step (arg2.view.read (Elt F) f2) (arg3.view.read (Elt F) f3) (arg4.view.read (Elt F) f4)) c
            -∗ (∃ W', owes (c : Thread nD τ) (owedMid c) W') -∗ Q ⟨⟩))
      ⊢ wp frame (wpE (defs₀ (F := F)) Variants.none (c : Thread nD τ) none) Set.univ (bodyAt i arg1 harg1 arg2 harg2 arg3 harg3 arg4 harg4 arg5 harg5) Q := by
  rw [bodyAt_first i h1 h2, wp_deviceId]
  rw [run_bind]
  unfold startX scratch keep recvsOpen
  iintro ⟨H234, ⟨%K, ⟨#HI, HT, #HSO, HSp, HC, HcS, #Hlev⟩, HB, #HBO, ⟨#R26, #R27, #R28, #R29⟩⟩,
    ⟨S0, S1, ⟨%g3, S3⟩, ⟨%g4, S4⟩, ⟨%g5, S5⟩, S6, S7, S8, S9, S10, S11, S12, S13⟩, HO, Hk⟩
  iapply (initRun V K c i h1 arg1 harg1 arg2 harg2 arg3 harg3 arg4 harg4 arg5 harg5 g3 g4 g5 W _)
  isplitl [S3 S4 S5]
  · isplitl [S3]; · iexact S3
    isplitl [S4]; · iexact S4
    iexact S5
  isplitl [S7 S9]
  · unfold barPayY
    isplitl [S7]; · iexact S7
    isplitl [S9]; · iexact S9
    isplitr; · iexact R26
    iexact R27
  isplitl [S11 S13]
  · unfold barPayX
    isplitl [S11]; · iexact S11
    isplitl [S13]; · iexact S13
    isplitr; · iexact R28
    iexact R29
  isplitr; · iexact HI
  isplitl [HB]; · iexact HB
  isplitr; · iexact HBO
  isplitr; · iexact Hlev
  isplitl [HO]; · iexact HO
  iintro Hs HY HX HP ⟨%W', HO⟩
  iapply (coreStep c i arg1 harg1 arg2 harg2 arg3 harg3 arg4 harg4 arg5 harg5 f2 f3 f4 run0 (owedMid c) (above_owedMid c 0 (by decide)) W' _ _)
  isplitl [H234]; · iexact H234
  isplitl [S0 S1 Hs]
  · isplitl [S0]; · iexact S0
    isplitl [S1]; · iexact S1
    unfold sums; iexact Hs
  isplitl [HcS]; · iexact HcS
  isplitr; · iexact Hlev
  isplitl [HO]; · iexact HO
  iintro H234 Hs HcS HO
  rw [run_pure]; imodintro
  iapply Hk $$ H234 [HI HT HSO HSp HC HcS Hlev HP HY HX Hs S6 S8 S10 S12] HO
  unfold between keep
  isplitl [HT HSp HC HcS HP]
  · iexists K
    isplitr [HP]
    · isplitr; · iexact HI
      isplitl [HT]; · iexact HT
      isplitr; · iexact HSO
      isplitl [HSp]; · iexact HSp
      isplitl [HC]; · iexact HC
      isplitl [HcS]; · iexact HcS
      iexact Hlev
    iexact HP
  isplitl [HY]; · iexact HY
  isplitl [HX]; · iexact HX
  isplitl [Hs]; · iexact Hs
  isplitl [S6]; · iexact S6
  isplitl [S8]; · iexact S8
  isplitl [S10]; · iexact S10
  iexact S12

/-- A middle point. -/
theorem midRun (V : Vals F) (i : grid0.Coords) (h1 : ¬ k0_cond1 i = 1#1) (h2 : ¬ k0_cond2 i = 1#1) (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole)
    (f2 : Buf (Elt F) (arg2.view.loc (c : Thread nD τ))) (f3 : Buf (Elt F) (arg3.view.loc (c : Thread nD τ))) (f4 : Buf (Elt F) (arg4.view.loc (c : Thread nD τ)))
    (r : Run F) (W : Waits sig Unit) (Q : PUnit → sProp 𝕄) :
    iprop((held c arg2 f2 ∗ held c arg3 f3 ∗ held c arg4 f4) ∗ between V r c ∗ owes (c : Thread nD τ) (owedMid c) W
        ∗ ((held c arg2 f2 ∗ held c arg3 f3 ∗ held c arg4 f4)
            -∗ between V (r.step (arg2.view.read (Elt F) f2) (arg3.view.read (Elt F) f3) (arg4.view.read (Elt F) f4)) c
            -∗ (∃ W', owes (c : Thread nD τ) (owedMid c) W') -∗ Q ⟨⟩))
      ⊢ wp frame (wpE (defs₀ (F := F)) Variants.none (c : Thread nD τ) none) Set.univ (bodyAt i arg1 harg1 arg2 harg2 arg3 harg3 arg4 harg4 arg5 harg5) Q := by
  rw [bodyAt_mid i h1 h2, wp_deviceId]
  unfold between keep
  iintro ⟨H234, ⟨⟨%K, ⟨#HI, HT, #HSO, HSp, HC, HcS, #Hlev⟩, HP⟩, HY, HX, Hs, S6, S8, S10, S12⟩, HO, Hk⟩
  iapply (coreStep c i arg1 harg1 arg2 harg2 arg3 harg3 arg4 harg4 arg5 harg5 f2 f3 f4 r (owedMid c) (above_owedMid c 0 (by decide)) W _ _)
  isplitl [H234]; · iexact H234
  isplitl [Hs]; · iexact Hs
  isplitl [HcS]; · iexact HcS
  isplitr; · iexact Hlev
  isplitl [HO]; · iexact HO
  iintro H234 Hs HcS HO
  rw [run_pure]; imodintro
  iapply Hk $$ H234 [HI HT HSO HSp HC HcS Hlev HP HY HX Hs S6 S8 S10 S12] HO
  isplitl [HT HSp HC HcS HP]
  · iexists K
    isplitr [HP]
    · isplitr; · iexact HI
      isplitl [HT]; · iexact HT
      isplitr; · iexact HSO
      isplitl [HSp]; · iexact HSp
      isplitl [HC]; · iexact HC
      isplitl [HcS]; · iexact HcS
      iexact Hlev
    iexact HP
  isplitl [HY]; · iexact HY
  isplitl [HX]; · iexact HX
  isplitl [Hs]; · iexact Hs
  isplitl [S6]; · iexact S6
  isplitl [S8]; · iexact S8
  isplitl [S10]; · iexact S10
  iexact S12

/-- After the exchanges every cell of a device is closed, its counter at zero. -/
theorem closeAll (V : Vals F) (K : GSem nD τ sig → ℕ) :
    iprop(invs V K c ∗ spots c (0 + 1) ∗ atPos ER (barCell c) (0 + 1) ∅ 0) ⊢ (|={Set.univ}=> (semVal (barCell c) 0 ∗ xSems c) : sProp 𝕄) := by
  unfold invs spots xSems
  iintro ⟨⟨⟨#I22, #I23, #I24, #I25, #I26, #I27, #I28, #I29⟩, ⟨#IB, -, -⟩, -⟩, ⟨P22, P23, P24, P25, P26, P27, P28, P29⟩, PB⟩
  imod (close V (K (cell 22 c)) (cell 22 c)) $$ [P22] with C22
  · isplitr; · iexact I22
    iexact P22
  imod (close V (K (cell 23 c)) (cell 23 c)) $$ [P23] with C23
  · isplitr; · iexact I23
    iexact P23
  imod (close V (K (cell 24 c)) (cell 24 c)) $$ [P24] with C24
  · isplitr; · iexact I24
    iexact P24
  imod (close V (K (cell 25 c)) (cell 25 c)) $$ [P25] with C25
  · isplitr; · iexact I25
    iexact P25
  imod (close V (K (cell 26 c)) (cell 26 c)) $$ [P26] with C26
  · isplitr; · iexact I26
    iexact P26
  imod (close V (K (cell 27 c)) (cell 27 c)) $$ [P27] with C27
  · isplitr; · iexact I27
    iexact P27
  imod (close V (K (cell 28 c)) (cell 28 c)) $$ [P28] with C28
  · isplitr; · iexact I28
    iexact P28
  imod (close V (K (cell 29 c)) (cell 29 c)) $$ [P29] with C29
  · isplitr; · iexact I29
    iexact P29
  imod (close V (K (barCell c)) (barCell c)) $$ [PB] with CB
  · isplitr; · iexact IB
    iexact PB
  imodintro
  isplitl [CB]; · iexact CB
  isplitl [C22]; · iexact C22
  isplitl [C23]; · iexact C23
  isplitl [C24]; · iexact C24
  isplitl [C25]; · iexact C25
  isplitl [C26]; · iexact C26
  isplitl [C27]; · iexact C27
  isplitl [C28]; · iexact C28
  iexact C29

/-- The last point. -/
theorem lastRun (V : Vals F) (i : grid0.Coords) (h1 : ¬ k0_cond1 i = 1#1) (h2 : k0_cond2 i = 1#1) (arg1 : Memref sig .tc .smem S1 .i32) (harg1 : arg1.IsWhole) (arg2 : Memref sig .tc .vmem S4x32x1024 .f32) (harg2 : arg2.IsWhole) (arg3 : Memref sig .tc .vmem S4x512x8x128 .f32) (harg3 : arg3.IsWhole) (arg4 : Memref sig .tc .vmem S4x512x8x128 .f32) (harg4 : arg4.IsWhole) (arg5 : Memref sig .tc .vmem S4x32x1024 .f32) (harg5 : arg5.IsWhole)
    (f2 : Buf (Elt F) (arg2.view.loc (c : Thread nD τ))) (f3 : Buf (Elt F) (arg3.view.loc (c : Thread nD τ))) (f4 : Buf (Elt F) (arg4.view.loc (c : Thread nD τ)))
    (f5 : Buf (Elt F) (arg5.view.loc (c : Thread nD τ)))
    (r r' : Run F) (hr : r.step (arg2.view.read (Elt F) f2) (arg3.view.read (Elt F) f3) (arg4.view.read (Elt F) f4) = r') (hV : Fits V c r'.a r'.m r'.l)
    (W : Waits sig Unit) (Q : PUnit → sProp 𝕄) :
    iprop((held c arg2 f2 ∗ held c arg3 f3 ∗ held c arg4 f4) ∗ held c arg5 f5 ∗ between V r c ∗ owes (c : Thread nD τ) (owedMid c) W
        ∗ ((held c arg2 f2 ∗ held c arg3 f3 ∗ held c arg4 f4)
            -∗ (∃ f, held c arg5 f ∗ ⌜arg5.view.read (Elt F) f = outOf (V.z2 c) (V.l2 c) (V.z2 (nbrX c)) (V.l2 (nbrX c))⌝)
            -∗ finish c -∗ (∃ W', owes (c : Thread nD τ) 0 W') -∗ Q ⟨⟩))
      ⊢ wp frame (wpE (defs₀ (F := F)) Variants.none (c : Thread nD τ) none) Set.univ (bodyAt i arg1 harg1 arg2 harg2 arg3 harg3 arg4 harg4 arg5 harg5) Q := by
  rw [bodyAt_last i h1 h2, wp_deviceId]
  unfold between keep
  iintro ⟨H234, H5, ⟨⟨%K, ⟨#HI, HT, #HSO, HSp, HC, HcS, #Hlev⟩, HP⟩, HY, HX, Hs, ⟨%b6, S6⟩, ⟨%b8, S8⟩, ⟨%b10, S10⟩, ⟨%b12, S12⟩⟩, HO, Hk⟩
  iapply (coreStep c i arg1 harg1 arg2 harg2 arg3 harg3 arg4 harg4 arg5 harg5 f2 f3 f4 r (owedMid c) (above_owedMid c 0 (by decide)) W _ _)
  isplitl [H234]; · iexact H234
  isplitl [Hs]; · iexact Hs
  isplitl [HcS]; · iexact HcS
  isplitr; · iexact Hlev
  isplitl [HO]; · iexact HO
  rw [hr]
  unfold sums
  iintro H234 ⟨S0, S1, A3, A4, A5⟩ HcS ⟨%W', HO⟩
  rw [run_bind]
  iapply (tailRun V K c i h2 arg1 harg1 arg2 harg2 arg3 harg3 arg4 harg4 arg5 harg5 r'.a r'.m r'.l hV b6 b8 b10 b12 f5 W' _)
  isplitl [A3 A4 A5 S6 S8 S10 S12 H5]
  · isplitl [A3]; · iexact A3
    isplitl [A4]; · iexact A4
    isplitl [A5]; · iexact A5
    isplitl [S6]; · iexact S6
    isplitl [S8]; · iexact S8
    isplitl [S10]; · iexact S10
    isplitl [S12]; · iexact S12
    iexact H5
  isplitl [HY]; · iexact HY
  isplitl [HX]; · iexact HX
  isplitr; · iexact HI
  isplitl [HT]; · iexact HT
  isplitr; · iexact HSO
  isplitl [HSp]; · iexact HSp
  isplitl [HC]; · iexact HC
  isplitr; · iexact Hlev
  isplitl [HO]; · iexact HO
  iintro ⟨A3, A4, A5⟩ ⟨S6, S7, S8, S9, S10, S11, S12, S13⟩ HSp HO H5
  rw [run_pure]
  imod (closeAll c V K) $$ [HSp HP] with ⟨HB, HxS⟩
  · isplitr; · iexact HI
    isplitl [HSp]; · iexact HSp
    iexact HP
  imodintro
  iapply Hk $$ H234 H5 [HB HxS HcS S0 S1 A3 A4 A5 S6 S7 S8 S9 S10 S11 S12 S13] HO
  unfold finish scratch
  isplitl [HB]; · iexact HB
  isplitl [HcS HxS]
  · isplitl [HcS]; · iexact HcS
    iexact HxS
  isplitl [S0]; · iexact S0
  isplitl [S1]; · iexact S1
  isplitl [A3]; · iexists _; iexact A3
  isplitl [A4]; · iexists _; iexact A4
  isplitl [A5]; · iexists _; iexact A5
  isplitl [S6]; · iexists _; iexact S6
  isplitl [S7]; · iexists _; iexact S7
  isplitl [S8]; · iexists _; iexact S8
  isplitl [S9]; · iexists _; iexact S9
  isplitl [S10]; · iexists _; iexact S10
  isplitl [S11]; · iexists _; iexact S11
  isplitl [S12]; · iexists _; iexact S12
  iexists _; iexact S13

end Cert.KProof
-- ==== Proof.Region.lean ====
/- The pipeline's data on each device, and the body at every grid point as the pipeline asks for it. -/
module

public import proofs.«01_k».proof.Proof.Points

@[expose] public section

set_option maxRecDepth 4000
set_option maxHeartbeats 1000000

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (c : Dev nD)

/-- What a device holds before a point. -/
def phi : ℕ → sProp 𝕄
  | 0 => iprop(startX (vals m) c ∗ scratch c)
  | 1 => between (vals m) (runAt m c 1) c
  | 2 => between (vals m) (runAt m c 2) c
  | 3 => between (vals m) (runAt m c 3) c
  | _ => finish c

/-- What it owes then. -/
def owedAt (c : Dev nD) : ℕ → CellTallies nD τ sig Unit
  | 0 => O₀ c
  | 1 => owedMid c
  | 2 => owedMid c
  | 3 => owedMid c
  | _ => 0

theorem above_owedAt (c : Dev nD) : ∀ n, Above 0 (owedAt c n)
  | 0 => above_O₀ c
  | 1 => above_owedMid c 0 (by decide)
  | 2 => above_owedMid c 0 (by decide)
  | 3 => above_owedMid c 0 (by decide)
  | _ + 4 => Above.zero 0

/-- The table, in a device's hands. -/
abbrev tabHeld : sProp 𝕄 := Pipeline.prefHeld pre0 c (fun _ => fullShare) (tab m c)

/-- The pipeline's data. -/
def dat (c : Dev nD) : Dat τ (Elt F) Unit ℕ UU ℕ (cfgOf m c) c where
  A := arrV m c
  after := fun
    | 0 => qBlk m c
    | 1 => kBlk m c
    | 2 => vBlk m c
    | 3 => fun _ => outV m c
    | ⟨_ + 4, h⟩ => absurd h (Nat.not_lt.2 (Nat.le_add_left _ _))
  Φ t := iprop(tabHeld m c ∗ phi m c t.val)
  q _ := fullShare
  owed t := owedAt c t.val

theorem owed_intro {cfg : Pipeline.Cfg sig Λ₀} {c : Dev nD} (dat : Dat τ (Elt F) Unit ℕ UU ℕ cfg c) (t : Fin (cfg.N + 1))
    (O : CellTallies nD τ sig Unit) (h : dat.owed t = O) (hr : dat.recorded t = Set.univ) :
    (iprop(∃ W, owes (c : Thread nD τ) O W) : sProp 𝕄) ⊢ (dat.owesAt () t : sProp 𝕄) := by
  unfold Dat.owesAt Pipeline.owesWithin Dat.bound
  rw [h, hr]
  iintro ⟨%W, HO⟩
  iexists W
  isplitr
  · ipureintro; exact fun _ _ => Or.inl trivial
  iexact HO

theorem owed_elim {cfg : Pipeline.Cfg sig Λ₀} {c : Dev nD} (dat : Dat τ (Elt F) Unit ℕ UU ℕ cfg c) (t : Fin (cfg.N + 1))
    (O : CellTallies nD τ sig Unit) (h : dat.owed t = O) :
    (dat.owesAt () t : sProp 𝕄) ⊢ iprop(∃ W, owes (c : Thread nD τ) O W) := by
  unfold Dat.owesAt Pipeline.owesWithin
  rw [h]
  iintro ⟨%W, -, HO⟩
  iexists W
  iexact HO

/-- A staging buffer owned is held whole at contents that read as said, -/
theorem owns_held {sp : Space} {sh : Shape} {e : EltTy} (b : Memref sig .tc sp sh e) (hb : b.IsWhole) (X : sh.Idx → Elt F e) :
    (owns (c : Thread nD τ) b fullShare X : sProp 𝕄) ⊢ iprop(∃ f, ⌜b.view.read (Elt F) f = X⌝ ∗ held c b f) := by
  unfold owns
  rw [hb.set_eq_univ]
/-- and back. -/
theorem held_owns {sp : Space} {sh : Shape} {e : EltTy} (b : Memref sig .tc sp sh e) (hb : b.IsWhole) (X : sh.Idx → Elt F e)
    (f : Buf (Elt F) (b.view.loc (c : Thread nD τ))) (h : b.view.read (Elt F) f = X) :
    held c b f ⊢ (owns (c : Thread nD τ) b fullShare X : sProp 𝕄) := by
  unfold owns
  rw [hb.set_eq_univ]
  iintro H
  iexists f
  isplitr; · ipureintro; exact h
  iexact H

/-! ## What the input windows hold -/

theorem before_q (t : Fin grid0.N) (d) : (dat m c).before (0 : Fin 4) t d = qBlk m c t :=
  (Dat.before_in_eq_fetched (dat m c) (0 : Fin 4) rfl (fun _ => rfl) (fun _ _ _ => rfl) (fun _ => rfl) t d).trans rfl
theorem before_k (t : Fin grid0.N) (d) : (dat m c).before (1 : Fin 4) t d = kBlk m c t :=
  (Dat.before_in_eq_fetched (dat m c) (1 : Fin 4) rfl (fun _ => rfl) (fun _ _ _ => rfl) (fun _ => rfl) t d).trans rfl
theorem before_v (t : Fin grid0.N) (d) : (dat m c).before (2 : Fin 4) t d = vBlk m c t :=
  (Dat.before_in_eq_fetched (dat m c) (2 : Fin 4) rfl (fun _ => rfl) (fun _ _ _ => rfl) (fun _ => rfl) t d).trans rfl

/-- The output is written back at the last point alone. -/
theorem flush_out (t : Fin grid0.N) : ((cfgOf m c).win (3 : Fin 4)).flush t = decide (t.val + 1 = grid0.N) := by
  have h : ((cfgOf m c).win (3 : Fin 4)).flush t = (((cfgOf m c).win (3 : Fin 4)).isOut && (decide (t.val + 1 = grid0.N)
      || decide (∃ h : t.val + 1 < grid0.N, ((cfgOf m c).win (3 : Fin 4)).index ⟨t.val + 1, h⟩ ≠ ((cfgOf m c).win (3 : Fin 4)).index t))) := rfl
  rw [h]
  have h' : ¬ ∃ h : t.val + 1 < grid0.N, ((cfgOf m c).win (3 : Fin 4)).index ⟨t.val + 1, h⟩ ≠ ((cfgOf m c).win (3 : Fin 4)).index t := fun ⟨_, hn⟩ => hn rfl
  rw [decide_eq_false h', Bool.or_false]
  exact Bool.true_and _

/-- The body leaves the input blocks as they were, -/
theorem leaves_q (t : Fin grid0.N) : (dat m c).leaves (0 : Fin 4) t
    = owns (c : Thread nD τ) (((cfgOf m c).win 0).stage ((cfgOf m c).slots t 0)) fullShare (qBlk m c t) := rfl
theorem leaves_k (t : Fin grid0.N) : (dat m c).leaves (1 : Fin 4) t
    = owns (c : Thread nD τ) (((cfgOf m c).win 1).stage ((cfgOf m c).slots t 1)) fullShare (kBlk m c t) := rfl
theorem leaves_v (t : Fin grid0.N) : (dat m c).leaves (2 : Fin 4) t
    = owns (c : Thread nD τ) (((cfgOf m c).win 2).stage ((cfgOf m c).slots t 2)) fullShare (vBlk m c t) := rfl
/-- the output's block as it found it before the last point -/
theorem leaves_idle (t : Fin grid0.N) (hi : (cfgOf m c).idle (3 : Fin 4) (grid0.coords t) = true) (hn : t.val + 1 ≠ grid0.N) :
    (dat m c).leaves (3 : Fin 4) t
    = iprop(∃ d, owns (c : Thread nD τ) (((cfgOf m c).win 3).stage ((cfgOf m c).slots t 3)) fullShare ((dat m c).before (3 : Fin 4) t d)) := by
  unfold Dat.leaves
  have hf := (flush_out m c t).trans (decide_eq_false hn)
  have hi' : (cfgOf m c).idle (3 : Fin 4) ((cfgOf m c).grid.coords t) = true := hi
  rw [hi', hf]
  rfl
/-- and at the output there. -/
theorem leaves_out (t : Fin grid0.N) (hi : (cfgOf m c).idle (3 : Fin 4) (grid0.coords t) = false) :
    (dat m c).leaves (3 : Fin 4) t
    = owns (c : Thread nD τ) (((cfgOf m c).win 3).stage ((cfgOf m c).slots t 3)) fullShare (outV m c) := by
  unfold Dat.leaves
  have hi' : (cfgOf m c).idle (3 : Fin 4) ((cfgOf m c).grid.coords t) = false := hi
  rw [hi']
  rfl

theorem cond1_first : k0_cond1 (grid0.coords t0_0) = 1#1 := by decide +kernel
theorem cond1_later : ∀ t : Fin grid0.N, t ≠ t0_0 → ¬ k0_cond1 (grid0.coords t) = 1#1 := by decide +kernel
theorem cond2_last : k0_cond2 (grid0.coords t0_3) = 1#1 := by decide +kernel
theorem cond2_before : ∀ t : Fin grid0.N, t ≠ t0_3 → ¬ k0_cond2 (grid0.coords t) = 1#1 := by decide +kernel

/-- The staging buffers in use at a point. -/
abbrev stg (t : Fin grid0.N) (w : Fin 4) := ((cfgOf m c).win w).stage ((cfgOf m c).slots t w)

/-- The three input blocks owned are held, -/
theorem inputs_held (t : Fin grid0.N) :
    iprop((∃ d, owns (c : Thread nD τ) (stg m c t 0) fullShare ((dat m c).before (0 : Fin 4) t d))
        ∗ (∃ d, owns (c : Thread nD τ) (stg m c t 1) fullShare ((dat m c).before (1 : Fin 4) t d))
        ∗ (∃ d, owns (c : Thread nD τ) (stg m c t 2) fullShare ((dat m c).before (2 : Fin 4) t d)))
      ⊢ (iprop(∃ f2 f3 f4, ⌜(stg m c t 0).view.read (Elt F) f2 = qBlk m c t ∧ (stg m c t 1).view.read (Elt F) f3 = kBlk m c t
          ∧ (stg m c t 2).view.read (Elt F) f4 = vBlk m c t⌝
        ∗ held c (stg m c t 0) f2 ∗ held c (stg m c t 1) f3 ∗ held c (stg m c t 2) f4) : sProp 𝕄) := by
  iintro ⟨⟨%d0, H0⟩, ⟨%d1, H1⟩, ⟨%d2, H2⟩⟩
  rw [before_q, before_k, before_v]
  ihave H0 := (owns_held c _ (stage_whole0 0 _) _) $$ H0
  ihave H1 := (owns_held c _ (stage_whole0 1 _) _) $$ H1
  ihave H2 := (owns_held c _ (stage_whole0 2 _) _) $$ H2
  icases H0 with ⟨%f2, %e2, H0⟩
  icases H1 with ⟨%f3, %e3, H1⟩
  icases H2 with ⟨%f4, %e4, H2⟩
  iexists f2; iexists f3; iexists f4
  isplitr; · ipureintro; exact ⟨e2, e3, e4⟩
  isplitl [H0]; · iexact H0
  isplitl [H1]; · iexact H1
  iexact H2

/-- and left as the pipeline asks. -/
theorem inputs_left (t : Fin grid0.N) (f2 : Buf (Elt F) ((stg m c t 0).view.loc (c : Thread nD τ)))
    (f3 : Buf (Elt F) ((stg m c t 1).view.loc (c : Thread nD τ))) (f4 : Buf (Elt F) ((stg m c t 2).view.loc (c : Thread nD τ)))
    (e : (stg m c t 0).view.read (Elt F) f2 = qBlk m c t ∧ (stg m c t 1).view.read (Elt F) f3 = kBlk m c t
          ∧ (stg m c t 2).view.read (Elt F) f4 = vBlk m c t) :
    iprop(held c (stg m c t 0) f2 ∗ held c (stg m c t 1) f3 ∗ held c (stg m c t 2) f4)
      ⊢ (iprop((dat m c).leaves (0 : Fin 4) t ∗ (dat m c).leaves (1 : Fin 4) t ∗ (dat m c).leaves (2 : Fin 4) t) : sProp 𝕄) := by
  rw [leaves_q, leaves_k, leaves_v]
  exact BI.sep_mono (held_owns c _ (stage_whole0 0 _) _ _ e.1) (BI.sep_mono (held_owns c _ (stage_whole0 1 _) _ _ e.2.1) (held_owns c _ (stage_whole0 2 _) _ _ e.2.2))

/-- What a point is entered with, and what it leaves. -/
abbrev entered (t : Fin grid0.N) : sProp 𝕄 :=
  iprop((tabHeld m c ∗ phi m c t.val) ∗ (dat m c).owesAt () (Fin.castSucc t)
    ∗ (∃ d, owns (c : Thread nD τ) (stg m c t 0) fullShare ((dat m c).before (0 : Fin 4) t d))
    ∗ (∃ d, owns (c : Thread nD τ) (stg m c t 1) fullShare ((dat m c).before (1 : Fin 4) t d))
    ∗ (∃ d, owns (c : Thread nD τ) (stg m c t 2) fullShare ((dat m c).before (2 : Fin 4) t d))
    ∗ (∃ d, owns (c : Thread nD τ) (stg m c t 3) fullShare ((dat m c).before (3 : Fin 4) t d)))
abbrev left (t : Fin grid0.N) : sProp 𝕄 :=
  iprop((tabHeld m c ∗ phi m c (t.val + 1)) ∗ (dat m c).owesAt () (Fin.succ t)
    ∗ (dat m c).leaves (0 : Fin 4) t ∗ (dat m c).leaves (1 : Fin 4) t ∗ (dat m c).leaves (2 : Fin 4) t ∗ (dat m c).leaves (3 : Fin 4) t)

/-- The body's call at a point. -/
abbrev callAt (t : Fin grid0.N) : Prog (TpuEff nD τ sig (Elt F) Λ₀ .tc) PUnit :=
  bodyAt (grid0.coords t) (Memref.whole main_v5) (Memref.isWhole_whole _) (stg m c t 0) (stage_whole0 0 _) (stg m c t 1) (stage_whole0 1 _)
    (stg m c t 2) (stage_whole0 2 _) (stg m c t 3) (stage_whole0 3 _)

theorem phi_between (n : ℕ) (h : 1 ≤ n) (h' : n ≤ 3) : phi m c n = between (vals m) (runAt m c n) c := by
  interval_cases n <;> rfl
theorem owedAt_between (n : ℕ) (h : 1 ≤ n) (h' : n ≤ 3) : owedAt c n = owedMid c := by
  interval_cases n <;> rfl

/-- The first point, -/
theorem point_first (t : Fin grid0.N) (h1 : k0_cond1 (grid0.coords t) = 1#1) (h2 : ¬ k0_cond2 (grid0.coords t) = 1#1) (ht : t.val = 0)
    (hi : (cfgOf m c).idle (3 : Fin 4) (grid0.coords t) = true) (hn : t.val + 1 ≠ grid0.N) : entered m c t
    ⊢ wp frame (wpE (defs₀ (F := F)) Variants.none (c : Thread nD τ) none) Set.univ (callAt m c t) fun _ => left m c t := by
  unfold entered left
  rw [phi_between m c (t.val + 1) (by omega) (by omega), runAt_succ m c t, leaves_idle m c t hi hn, ht,
    show phi m c 0 = iprop(startX (vals m) c ∗ scratch c) from rfl, show runAt m c 0 = run0 from rfl]
  iintro ⟨⟨HT, HX, HS⟩, HO, Hq, Hk, Hv, Ho⟩
  ihave HO := (owed_elim (dat m c) (Fin.castSucc t) (O₀ c) (by show owedAt c t.val = _; rw [ht]; rfl)) $$ HO
  icases HO with ⟨%W, HO⟩
  ihave Hin := (inputs_held m c t) $$ [Hq Hk Hv]
  · isplitl [Hq]; · iexact Hq
    isplitl [Hk]; · iexact Hk
    iexact Hv
  icases Hin with ⟨%f2, %f3, %f4, %e, Hin⟩
  iapply (firstRun c (vals m) (grid0.coords t) h1 h2 (Memref.whole main_v5) (Memref.isWhole_whole _) (stg m c t 0) (stage_whole0 0 _) (stg m c t 1) (stage_whole0 1 _) (stg m c t 2) (stage_whole0 2 _) (stg m c t 3) (stage_whole0 3 _) f2 f3 f4 W _)
  isplitl [Hin]; · iexact Hin
  isplitl [HX]; · iexact HX
  isplitl [HS]; · iexact HS
  isplitl [HO]; · iexact HO
  rw [e.1, e.2.1, e.2.2]
  iintro Hin Hb HO
  ihave HO := (owed_intro (dat m c) (Fin.succ t) (owedMid c) (owedAt_between c (t.val + 1) (by omega) (by omega)) rfl) $$ HO
  ihave Hin := (inputs_left m c t f2 f3 f4 e) $$ Hin
  icases Hin with ⟨Hq, Hk, Hv⟩
  isplitl [HT Hb]
  · isplitl [HT]; · iexact HT
    iexact Hb
  isplitl [HO]; · iexact HO
  isplitl [Hq]; · iexact Hq
  isplitl [Hk]; · iexact Hk
  isplitl [Hv]; · iexact Hv
  iexact Ho

/-- the points between -/
theorem point_mid (t : Fin grid0.N) (h1 : ¬ k0_cond1 (grid0.coords t) = 1#1) (h2 : ¬ k0_cond2 (grid0.coords t) = 1#1) (ht : 1 ≤ t.val) (ht' : t.val ≤ 2)
    (hi : (cfgOf m c).idle (3 : Fin 4) (grid0.coords t) = true) (hn : t.val + 1 ≠ grid0.N) : entered m c t
    ⊢ wp frame (wpE (defs₀ (F := F)) Variants.none (c : Thread nD τ) none) Set.univ (callAt m c t) fun _ => left m c t := by
  unfold entered left
  rw [phi_between m c (t.val + 1) (by omega) (by omega), runAt_succ m c t, leaves_idle m c t hi hn, phi_between m c t.val ht (by omega)]
  iintro ⟨⟨HT, HX⟩, HO, Hq, Hk, Hv, Ho⟩
  ihave HO := (owed_elim (dat m c) (Fin.castSucc t) (owedMid c) (owedAt_between c t.val ht (by omega))) $$ HO
  icases HO with ⟨%W, HO⟩
  ihave Hin := (inputs_held m c t) $$ [Hq Hk Hv]
  · isplitl [Hq]; · iexact Hq
    isplitl [Hk]; · iexact Hk
    iexact Hv
  icases Hin with ⟨%f2, %f3, %f4, %e, Hin⟩
  iapply (midRun c (vals m) (grid0.coords t) h1 h2 (Memref.whole main_v5) (Memref.isWhole_whole _) (stg m c t 0) (stage_whole0 0 _) (stg m c t 1) (stage_whole0 1 _) (stg m c t 2) (stage_whole0 2 _) (stg m c t 3) (stage_whole0 3 _) f2 f3 f4 (runAt m c t.val) W _)
  isplitl [Hin]; · iexact Hin
  isplitl [HX]; · iexact HX
  isplitl [HO]; · iexact HO
  rw [e.1, e.2.1, e.2.2]
  iintro Hin Hb HO
  ihave HO := (owed_intro (dat m c) (Fin.succ t) (owedMid c) (owedAt_between c (t.val + 1) (by omega) (by omega)) rfl) $$ HO
  ihave Hin := (inputs_left m c t f2 f3 f4 e) $$ Hin
  icases Hin with ⟨Hq, Hk, Hv⟩
  isplitl [HT Hb]
  · isplitl [HT]; · iexact HT
    iexact Hb
  isplitl [HO]; · iexact HO
  isplitl [Hq]; · iexact Hq
  isplitl [Hk]; · iexact Hk
  isplitl [Hv]; · iexact Hv
  iexact Ho

/-- and the last. -/
theorem point_last (t : Fin grid0.N) (h1 : ¬ k0_cond1 (grid0.coords t) = 1#1) (h2 : k0_cond2 (grid0.coords t) = 1#1) (ht : t.val = 3)
    (hi : (cfgOf m c).idle (3 : Fin 4) (grid0.coords t) = false) : entered m c t
    ⊢ wp frame (wpE (defs₀ (F := F)) Variants.none (c : Thread nD τ) none) Set.univ (callAt m c t) fun _ => left m c t := by
  have hr : (runAt m c t.val).step (qBlk m c t) (kBlk m c t) (vBlk m c t) = runAt m c 4 := by rw [← runAt_succ m c t, ht]
  unfold entered left
  rw [leaves_out m c t hi, phi_between m c t.val (by omega) (by omega), ht, show phi m c (3 + 1) = finish c from rfl]
  iintro ⟨⟨HT, HX⟩, HO, Hq, Hk, Hv, ⟨%d, Ho⟩⟩
  ihave HO := (owed_elim (dat m c) (Fin.castSucc t) (owedMid c) (owedAt_between c t.val (by omega) (by omega))) $$ HO
  icases HO with ⟨%W, HO⟩
  ihave Hin := (inputs_held m c t) $$ [Hq Hk Hv]
  · isplitl [Hq]; · iexact Hq
    isplitl [Hk]; · iexact Hk
    iexact Hv
  icases Hin with ⟨%f2, %f3, %f4, %e, Hin⟩
  ihave Ho := (owns_held c _ (stage_whole0 3 _) _) $$ Ho
  icases Ho with ⟨%f5, %e5, Ho⟩
  iapply (lastRun c (vals m) (grid0.coords t) h1 h2 (Memref.whole main_v5) (Memref.isWhole_whole _) (stg m c t 0) (stage_whole0 0 _) (stg m c t 1) (stage_whole0 1 _) (stg m c t 2) (stage_whole0 2 _) (stg m c t 3) (stage_whole0 3 _) f2 f3 f4 f5 (runAt m c 3) (runAt m c 4)
    (by rw [e.1, e.2.1, e.2.2, ← ht]; exact hr) (fits m c) W _)
  isplitl [Hin]; · iexact Hin
  isplitl [Ho]; · iexact Ho
  isplitl [HX]; · iexact HX
  isplitl [HO]; · iexact HO
  iintro Hin ⟨%f, Ho, %eo⟩ Hf HO
  ihave Ho := (held_owns c _ (stage_whole0 3 _) (outV m c) f eo) $$ Ho
  ihave HO := (owed_intro (dat m c) (Fin.succ t) 0 (by show owedAt c (t.val + 1) = _; rw [ht]; rfl) rfl) $$ HO
  ihave Hin := (inputs_left m c t f2 f3 f4 e) $$ Hin
  icases Hin with ⟨Hq, Hk, Hv⟩
  isplitl [HT Hf]
  · isplitl [HT]; · iexact HT
    iexact Hf
  isplitl [HO]; · iexact HO
  isplitl [Hq]; · iexact Hq
  isplitl [Hk]; · iexact Hk
  isplitl [Hv]; · iexact Hv
  iexact Ho

theorem idle_before : ∀ t : Fin grid0.N, t ≠ t0_3 → (cfgOf m c).idle (3 : Fin 4) (grid0.coords t) = true := by
  intro t ht
  show (!(k0_cond2 (grid0.coords t) == 1#1)) = true
  rw [beq_false_of_ne (cond2_before t ht)]; rfl
theorem idle_last : (cfgOf m c).idle (3 : Fin 4) (grid0.coords t0_3) = false := by
  show (!(k0_cond2 (grid0.coords t0_3) == 1#1)) = false
  rw [cond2_last]; rfl

theorem point (t : Fin grid0.N) : entered m c t
    ⊢ wp frame (wpE (defs₀ (F := F)) Variants.none (c : Thread nD τ) none) Set.univ (callAt m c t) fun _ => left m c t := by
  have hN : t.val < 4 := t.isLt
  rcases Nat.lt_or_ge t.val 3 with h | h
  · have h3 : t ≠ t0_3 := fun e => absurd (congrArg Fin.val e) (by show t.val ≠ 3; omega)
    rcases Nat.eq_zero_or_pos t.val with h0 | h0
    · have e0 : t = t0_0 := Fin.ext h0
      exact point_first m c t (e0 ▸ cond1_first) (cond2_before t h3) h0 (idle_before m c t h3) (by show t.val + 1 ≠ 4; omega)
    · exact point_mid m c t (cond1_later t (fun e => absurd (congrArg Fin.val e) (by show t.val ≠ 0; omega))) (cond2_before t h3) h0 (by omega)
        (idle_before m c t h3) (by show t.val + 1 ≠ 4; omega)
  · have e3 : t = t0_3 := Fin.ext (by show t.val = 3; omega)
    subst e3
    exact point_last m c t0_3 (cond1_later t0_3 (by decide)) cond2_last rfl (idle_last m c)

/-- The body does what the pipeline asks, at every point. -/
theorem body_obligation : Pipeline.BodyObligationLoose (dat m c) (defs₀ (F := F)) Variants.none () Set.univ := fun t => by
  rw [bigSep_W0, bigSep_W0]
  exact point m c t

end Cert.KProof
-- ==== Proof.Kit.lean ====
/- The kernel's region on each device: what enters it, what it leaves. -/
module

public import proofs.«01_k».proof.Proof.Region
public import proofs.«01_k».proof.Proof.Gen.KernelIdeal.Regions

@[expose] public section

set_option maxRecDepth 4000
set_option maxHeartbeats 1000000

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (c : Dev nD)

/-! ## The kernel's own counters -/

/-- The counters of the local copies and of the exchange. -/
def osem (k : Fin 24) : SemLoc sig := .dma (⟨6 + k.val, by have := k.isLt; show 6 + k.val < 30; omega⟩ : DmaSem sig)

theorem osem_facts : Pipeline.OwnSemFacts spec0 osem := by decide

theorem ownSems_list : (Pipeline.ownSems0 osem c : sProp 𝕄) = iprop(semVal (cell 6 c) 0 ∗ semVal (cell 7 c) 0 ∗ semVal (cell 8 c) 0 ∗ semVal (cell 9 c) 0 ∗ semVal (cell 10 c) 0 ∗ semVal (cell 11 c) 0 ∗ semVal (cell 12 c) 0 ∗ semVal (cell 13 c) 0 ∗ semVal (cell 14 c) 0 ∗ semVal (cell 15 c) 0 ∗ semVal (cell 16 c) 0 ∗ semVal (cell 17 c) 0 ∗ semVal (cell 18 c) 0 ∗ semVal (cell 19 c) 0 ∗ semVal (cell 20 c) 0 ∗ semVal (cell 21 c) 0 ∗ semVal (cell 22 c) 0 ∗ semVal (cell 23 c) 0 ∗ semVal (cell 24 c) 0 ∗ semVal (cell 25 c) 0 ∗ semVal (cell 26 c) 0 ∗ semVal (cell 27 c) 0 ∗ semVal (cell 28 c) 0 ∗ semVal (cell 29 c) 0) :=
  Pipeline.ownSems0_eq_of_list c osem [(0 : Fin 24), 1, 2, 3, 4, 5, 6, 7, 8, 9, 10, 11, 12, 13, 14, 15, 16, 17, 18, 19, 20, 21, 22, 23] (by decide) (by decide)

theorem ownSems_split : (Pipeline.ownSems0 osem c : sProp 𝕄) ⊢ iprop(copySems c ∗ xSems c) := by
  rw [ownSems_list]
  unfold copySems xSems
  iintro ⟨H6, H7, H8, H9, H10, H11, H12, H13, H14, H15, H16, H17, H18, H19, H20, H21, HX⟩
  isplitr [HX]
  · isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  iexact HX

theorem ownSems_join : iprop(copySems c ∗ xSems c) ⊢ (Pipeline.ownSems0 osem c : sProp 𝕄) := by
  rw [ownSems_list]
  unfold copySems xSems
  iintro ⟨⟨H6, H7, H8, H9, H10, H11, H12, H13, H14, H15, H16, H17, H18, H19, H20, H21⟩, HX⟩
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact HX

/-! ## The exchange's cells opened -/

/-- The rights to open a device's cells of the exchange. -/
def opens (c : Dev nD) : sProp 𝕄 :=
  iprop(openTok ER (cell 22 c) ∗ openTok ER (cell 23 c) ∗ openTok ER (cell 24 c) ∗ openTok ER (cell 25 c)
    ∗ openTok ER (cell 26 c) ∗ openTok ER (cell 27 c) ∗ openTok ER (cell 28 c) ∗ openTok ER (cell 29 c))

/-- What the launch deals a device of the exchange. -/
def dealt (V : Vals F) (c : Dev nD) : sProp 𝕄 :=
  iprop(∃ K, invs V K c ∗ sendToks c ∗ opens c ∗ recvCreds c ∗ barToks c ∗ barsOpen c)

theorem open_cell (V : Vals F) (κ : ℕ) (g : GSem nD τ sig) :
    iprop(cellInv ER (sched V) κ g ∗ openTok ER g ∗ semVal g 0) ⊢ (|={Set.univ}=> iprop(atPos ER g 0 ∅ 0 ∗ reached ER g 0) : sProp 𝕄) := by
  iintro ⟨#HI, Ho, Hs⟩
  iapply (Rounds.cell_open ER (sched V) (g := g) (Set.mem_univ κ))
  isplitr; · iexact HI
  isplitl [Ho] <;> iassumption

theorem invs_own (V : Vals F) (K : GSem nD τ sig → ℕ) : invs V K c ⊢ iprop(cellInv ER (sched V) (K (cell 22 c)) (cell 22 c) ∗ cellInv ER (sched V) (K (cell 23 c)) (cell 23 c) ∗ cellInv ER (sched V) (K (cell 24 c)) (cell 24 c) ∗ cellInv ER (sched V) (K (cell 25 c)) (cell 25 c) ∗ cellInv ER (sched V) (K (cell 26 c)) (cell 26 c) ∗ cellInv ER (sched V) (K (cell 27 c)) (cell 27 c) ∗ cellInv ER (sched V) (K (cell 28 c)) (cell 28 c) ∗ cellInv ER (sched V) (K (cell 29 c)) (cell 29 c)) := by
  unfold invs
  iintro ⟨H, -, -⟩
  iexact H

/-- With the counters at zero, the cells open. -/
theorem open_all (V : Vals F) : iprop(dealt V c ∗ Pipeline.ownSems0 osem c ∗ levAts L lv) ⊢ (|={Set.univ}=> startX V c : sProp 𝕄) := by
  iintro ⟨HD, HS, #Hlev⟩
  ihave HS := (ownSems_split c) $$ HS
  icases HS with ⟨HcS, HX⟩
  unfold dealt opens xSems
  icases HD with ⟨%K, #HI, HT, ⟨O22, O23, O24, O25, O26, O27, O28, O29⟩, HC, HB, #HBO⟩
  icases HX with ⟨S22, S23, S24, S25, S26, S27, S28, S29⟩
  ihave HI' := (invs_own c V K) $$ HI
  icases HI' with ⟨#I22, #I23, #I24, #I25, #I26, #I27, #I28, #I29⟩
  imod (open_cell V _ (cell 22 c)) $$ [O22 S22] with ⟨P22, #R22⟩
  · isplitr; · iexact I22
    isplitl [O22] <;> iassumption
  imod (open_cell V _ (cell 23 c)) $$ [O23 S23] with ⟨P23, #R23⟩
  · isplitr; · iexact I23
    isplitl [O23] <;> iassumption
  imod (open_cell V _ (cell 24 c)) $$ [O24 S24] with ⟨P24, #R24⟩
  · isplitr; · iexact I24
    isplitl [O24] <;> iassumption
  imod (open_cell V _ (cell 25 c)) $$ [O25 S25] with ⟨P25, #R25⟩
  · isplitr; · iexact I25
    isplitl [O25] <;> iassumption
  imod (open_cell V _ (cell 26 c)) $$ [O26 S26] with ⟨P26, #R26⟩
  · isplitr; · iexact I26
    isplitl [O26] <;> iassumption
  imod (open_cell V _ (cell 27 c)) $$ [O27 S27] with ⟨P27, #R27⟩
  · isplitr; · iexact I27
    isplitl [O27] <;> iassumption
  imod (open_cell V _ (cell 28 c)) $$ [O28 S28] with ⟨P28, #R28⟩
  · isplitr; · iexact I28
    isplitl [O28] <;> iassumption
  imod (open_cell V _ (cell 29 c)) $$ [O29 S29] with ⟨P29, #R29⟩
  · isplitr; · iexact I29
    isplitl [O29] <;> iassumption
  imodintro
  unfold startX keep recvsOpen spots sendsOpen
  iexists K
  isplitl [HT HC HcS P22 P23 P24 P25 P26 P27 P28 P29]
  · isplitr; · iexact HI
    isplitl [HT]; · iexact HT
    isplitr
    · isplitr; · iexact R22
      isplitr; · iexact R23
      isplitr; · iexact R24
      iexact R25
    isplitl [P22 P23 P24 P25 P26 P27 P28 P29]
    · isplitl [P22]; · iexact P22
      isplitl [P23]; · iexact P23
      isplitl [P24]; · iexact P24
      isplitl [P25]; · iexact P25
      isplitl [P26]; · iexact P26
      isplitl [P27]; · iexact P27
      isplitl [P28]; · iexact P28
      iexact P29
    isplitl [HC]; · iexact HC
    isplitl [HcS]; · iexact HcS
    iexact Hlev
  isplitl [HB]; · iexact HB
  isplitr; · iexact HBO
  isplitr; · iexact R26
  isplitr; · iexact R27
  isplitr; · iexact R28
  iexact R29

/-! ## The region -/

/-- The pipeline's data on every device. -/
def dats : (p : Fin 1) → (c : Dev nD) → Dat τ (Elt F) Unit ℕ UU ℕ (Pipeline.pinD (pcfgs (F := F)) (adm m) c p) c := fun
  | 0 => fun c => dat m c
  | ⟨_ + 1, h⟩ => absurd h (Nat.not_lt.2 (Nat.le_add_left _ _))

/-- The output's array in the end. -/
def arrOut : Buf (Elt F) ((c : Thread nD τ).loc main_v7) := (dat m c).arrAt (3 : Fin 4) grid0.N

/-- What the region leaves. -/
def outsOf : Outs (F := F) := fun _ r c => if h : r = main_v7 then h ▸ arrOut m c else m ((c : Thread nD τ).loc r)

/-- The buffers a device holds, before and after. -/
abbrev heldAt (c : Dev nD) (V : Valuation τ sig (Elt F)) : sProp 𝕄 := StableHlo.held (c : Thread nD τ) (Pipeline.ucRefs τ sig) V

include m in
/-- They are the windows' arrays, the table and the rest. -/
theorem split_held (V : Valuation τ sig (Elt F)) : heldAt c V
    = iprop(bigSep Finset.univ (fun w : Fin 4 => (((c : Thread nD τ).loc (Pipeline.arrRef spec0 w)) ↦{fullShare} V (Pipeline.arrRef spec0 w) : sProp 𝕄))
      ∗ Pipeline.prefHeld pre0 c (fun _ => fullShare) (fun k => V (pre0.ref k)) ∗ Pipeline.unscopedRestP pre0 spec0 c (fun b => V b)) := by
  unfold heldAt
  rw [← Pipeline.unscopedBufs_held (Ix := Unit) (Name := ℕ) (U := UU) (Lvl := ℕ) c V,
    Pipeline.PerCore.unscopedBufs_split (Pipeline.pinD (pcfgs (F := F)) (adm m)) 0 c winFacts0.arr_unscoped winFacts0.arr_inj (fun b => V b),
    ← Pipeline.unscopedRest_split preFacts0 c (fun b => V b)]

theorem arrays_dat (f : (w : Fin 4) → Buf (Elt F) ((c : Thread nD τ).loc (Pipeline.arrRef spec0 w))) :
    ((dats m 0 c).arrays f : sProp 𝕄) = bigSep Finset.univ fun w : Fin 4 => (((c : Thread nD τ).loc (Pipeline.arrRef spec0 w)) ↦{fullShare} f w : sProp 𝕄) :=
  Pipeline.PerCore.arrays_eq (Pipeline.pinD (pcfgs (F := F)) (adm m)) (dats m) (p := 0) c arr_whole0 ((dats m 0 c).share_full fun _ => rfl) f

/-- Only the output changes. -/
theorem rest_same : (Pipeline.unscopedRestP pre0 spec0 c (fun b => V1 m c b) : sProp 𝕄) = Pipeline.unscopedRestP pre0 spec0 c (fun b => V2 m (outsOf m) c b) := by
  rw [unscopedRestP0_eq, unscopedRestP0_eq, V2_of m (outsOf m) c main_arg0 (by decide), V2_of m (outsOf m) c main_c (by decide), V2_of m (outsOf m) c main_c_0 (by decide),
    V2_of m (outsOf m) c main_v1 (by decide), V2_of m (outsOf m) c main_v2 (by decide), V2_of m (outsOf m) c main_v3 (by decide), V2_of m (outsOf m) c main_v4 (by decide),
    V2_of m (outsOf m) c main_v8 (by decide)]

theorem tab_same : tab m c = fun k => V2 m (outsOf m) c (pre0.ref k) := by
  funext k
  exact (V2_of m (outsOf m) c (pre0.ref k) (by revert k; decide)).symm

theorem out_after : outsOf m 2 main_v7 c = arrOut m c := by unfold outsOf; exact dif_pos rfl

theorem V2_out : V2 m (outsOf m) c main_v7 = arrOut m c := by
  simp only [V2, Function.update_self, out_after]

theorem arr_after : ∀ w : Fin 4, (dat m c).arrAt w grid0.N = V2 m (outsOf m) c (Pipeline.arrRef spec0 w) := fun
  | 0 => ((dat m c).arrAt_in (0 : Fin 4) rfl grid0.N).trans (V2_of m (outsOf m) c main_v6 (by decide)).symm
  | 1 => ((dat m c).arrAt_in (1 : Fin 4) rfl grid0.N).trans (V2_of m (outsOf m) c main_arg1 (by decide)).symm
  | 2 => ((dat m c).arrAt_in (2 : Fin 4) rfl grid0.N).trans (V2_of m (outsOf m) c main_arg2 (by decide)).symm
  | 3 => (V2_out m c).symm
  | ⟨_ + 4, h⟩ => absurd h (Nat.not_lt.2 (Nat.le_add_left _ _))

theorem stage_level : ∀ (w : Fin 4) (s : Fin (spec0 w).nbuf), lvOf (.dma ((spec0 w).sem s)) = 0 := by decide

theorem scratch_rest : (Pipeline.scopedRest spec0 c : sProp 𝕄) = scratch c := by
  rw [scopedRest0_eq]
  unfold scratch
  rfl

/-- What a device holds beside its buffers before the region, and after. -/
abbrev before (c : Dev nD) : sProp 𝕄 := iprop(dealt (vals m) c ∗ ∃ W, owes (c : Thread nD τ) (O₀ c) W)
abbrev afterwards (c : Dev nD) : sProp 𝕄 := iprop(semVal (barCell c) 0 ∗ ∃ W, owes (c : Thread nD τ) (0 : CellTallies nD τ sig Unit) W)

theorem region_in (c : Dev nD) : iprop((heldAt c (V1 m c) ∗ before m c) ∗ Pipeline.ownSems0 osem c ∗ levAts L lv)
    ⊢ (|={Set.univ}=> iprop((dats m 0 c).arrays ((dats m 0 c).arrAt · 0) ∗ tabHeld m c ∗ (dats m 0 c).owesAt () 0 ∗ startX (vals m) c
        ∗ Pipeline.unscopedRestP pre0 spec0 c (fun b => V1 m c b)) : sProp 𝕄) := by
  rewrite [split_held m c, show ((dats m 0 c).arrays ((dats m 0 c).arrAt · 0) : sProp 𝕄) = _ from arrays_dat m c ((dats m 0 c).arrAt · 0)]
  iintro ⟨⟨⟨HA, HT, HR⟩, HD, HO⟩, HS, #Hlev⟩
  imod (open_all c (vals m)) $$ [HD HS] with HX
  · isplitl [HD]; · iexact HD
    isplitl [HS]; · iexact HS
    iexact Hlev
  imodintro
  isplitl [HA]; · iexact HA
  isplitl [HT]; · iexact HT
  isplitl [HO]; · iapply (owed_intro (dat m c) 0 (O₀ c) rfl rfl) $$ HO
  isplitl [HX]; · iexact HX
  iexact HR

theorem region_out (c : Dev nD) : iprop((dats m 0 c).arrays ((dats m 0 c).arrAt · grid0.N) ∗ (dats m 0 c).owesAt () (Fin.last grid0.N)
      ∗ (tabHeld m c ∗ semVal (barCell c) 0) ∗ Pipeline.unscopedRestP pre0 spec0 c (fun b => V1 m c b))
    ⊢ (iprop(heldAt c (V2 m (outsOf m) c) ∗ afterwards c) : sProp 𝕄) := by
  rewrite [split_held m c, show ((dats m 0 c).arrays ((dats m 0 c).arrAt · grid0.N) : sProp 𝕄) = _ from arrays_dat m c ((dats m 0 c).arrAt · grid0.N),
    rest_same m c, ← tab_same m c]
  rewrite [show (bigSep Finset.univ (fun w : Fin 4 => (((c : Thread nD τ).loc (Pipeline.arrRef spec0 w)) ↦{fullShare} V2 m (outsOf m) c (Pipeline.arrRef spec0 w) : sProp 𝕄)))
    = bigSep Finset.univ (fun w : Fin 4 => (((c : Thread nD τ).loc (Pipeline.arrRef spec0 w)) ↦{fullShare} (dats m 0 c).arrAt w grid0.N : sProp 𝕄)) from
      bigSep_congr fun w _ => congrArg (fun f => (((c : Thread nD τ).loc (Pipeline.arrRef spec0 w)) ↦{fullShare} f : sProp 𝕄)) (arr_after m c w).symm]
  iintro ⟨HA, HO, ⟨HT, HB⟩, HR⟩
  isplitl [HA HT HR]
  · isplitl [HA]; · iexact HA
    isplitl [HT]; · iexact HT
    iexact HR
  isplitl [HB]; · iexact HB
  iapply (show ((dats m 0 c).owesAt () (Fin.last grid0.N) : sProp 𝕄) ⊢ iprop(∃ W, owes (c : Thread nD τ) (0 : CellTallies nD τ sig Unit) W) from
    owed_elim (dat m c) (Fin.last grid0.N) 0 rfl) $$ HO

set_option backward.isDefEq.respectTransparency.types false in
/-- The kernel's region. -/
def region : Pipeline.PerCore.RegionSeg (pcfgs (F := F)) (adm m) (dats m) () defs₀ Variants.none L lv 0 where
  win := winFacts0.to₀
  block_pos := block_pos0
  stage_whole := stage_whole0
  K := Fin 24
  osem := osem
  ho := osem_facts
  hbody c := body_obligation m c
  hwaits c := Pipeline.PerCore.cellsWaits_intro (Pipeline.pinD (pcfgs (F := F)) (adm m)) (dats m) () 0 c fun w s t =>
    mayWait c _ (by rw [stage_level w s]; exact above_owedAt c t.val)
  pre c := iprop(heldAt c (V1 m c) ∗ before m c)
  post c := iprop(heldAt c (V2 m (outsOf m) c) ∗ afterwards c)
  X c := startX (vals m) c
  Y c := iprop(tabHeld m c ∗ semVal (barCell c) 0)
  Z c := Pipeline.unscopedRestP pre0 spec0 c (fun b => V1 m c b)
  hentry c := region_in m c
  hin c := by
    show _ ⊢ iprop(tabHeld m c ∗ (startX (vals m) c ∗ scratch c))
    rewrite [show (Pipeline.scopedRest (pcfgs (F := F) 0).spec c : sProp 𝕄) = scratch c from scratch_rest c]
    iintro ⟨HX, HT, HS⟩
    isplitl [HT]; · iexact HT
    isplitl [HX]; · iexact HX
    iexact HS
  hout c := by
    show iprop(tabHeld m c ∗ finish c) ⊢ _
    rewrite [show (Pipeline.scopedRest (pcfgs (F := F) 0).spec c : sProp 𝕄) = scratch c from scratch_rest c]
    unfold finish
    iintro ⟨HT, HB, HS, Hs⟩
    isplitl [HT HB]
    · isplitl [HT]; · iexact HT
      iexact HB
    isplitl [HS]; · iapply (ownSems_join c) $$ HS
    iexact Hs
  hexit c := (region_out m c).trans (by iintro H; imodintro; iexact H)

end Cert.KProof
-- ==== Proof.Run.lean ====
/- The launch: the exchange funded and dealt to the devices, and the run of the whole program. -/
module

public import proofs.«01_k».proof.Proof.Kit

@[expose] public section

set_option maxRecDepth 4000
set_option maxHeartbeats 1000000

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The semaphores of the exchange. -/
def xsem (k : Fin 8) : SemLoc sig := .dma (⟨22 + k.val, by have := k.isLt; show 22 + k.val < 30; omega⟩ : DmaSem sig)
theorem xsem_inj : Function.Injective xsem := by decide
theorem xsem_ne_bar : ∀ k, xsem k ≠ .reg barrier0 := by decide

def barEmb : Dev nD ↪ GSem nD τ sig := ⟨fun c => barCell c, fun _ _ h => congrArg (fun g : GSem nD τ sig => g.1.1) h⟩
def xEmb : Dev nD × Fin 8 ↪ GSem nD τ sig :=
  ⟨fun p => ((p.1 : Thread nD τ), xsem p.2), fun _ _ h =>
    Prod.ext (congrArg (fun g : GSem nD τ sig => g.1.1) h) (xsem_inj (congrArg Prod.snd h))⟩

/-- The barriers, live from the launch, -/
abbrev barCells : Finset (GSem nD τ sig) := Finset.univ.map barEmb
/-- and the exchange's cells, opened in the region. -/
abbrev xCells : Finset (GSem nD τ sig) := Finset.univ.map xEmb

theorem disjoint_cells : Disjoint barCells xCells := Finset.disjoint_left.mpr fun g h₁ h₂ => by
  obtain ⟨c, -, rfl⟩ := Finset.mem_map.mp h₁
  obtain ⟨p, -, h⟩ := Finset.mem_map.mp h₂
  exact xsem_ne_bar p.2 (congrArg Prod.snd h)

theorem bar_mem (c : Dev nD) : barCell c ∈ barCells ∪ xCells := Finset.mem_union_left _ (Finset.mem_map_of_mem barEmb (Finset.mem_univ c))
theorem x_mem (c : Dev nD) (k : Fin 8) : ((c : Thread nD τ), xsem k) ∈ barCells ∪ xCells :=
  Finset.mem_union_right _ (Finset.mem_map_of_mem xEmb (Finset.mem_univ (c, k)))

/-- The duties of a device's cells: two on the barrier, one on each of the exchange's. -/
def dutyAt : Fin 10 → SemLoc sig × Bool
  | 0 => (.reg barrier0, false)
  | 1 => (.reg barrier0, true)
  | ⟨k + 2, h⟩ => (xsem ⟨k, by omega⟩, false)
theorem dutyAt_inj : Function.Injective dutyAt := by decide

def allToks : Finset (GSem nD τ sig × ℕ × Bool) :=
  Finset.univ.map ⟨fun p : Dev nD × Fin 10 => (((p.1 : Thread nD τ), (dutyAt p.2).1), 0, (dutyAt p.2).2), fun _ _ h =>
    Prod.ext (congrArg (fun t : GSem nD τ sig × ℕ × Bool => t.1.1.1) h)
      (dutyAt_inj (Prod.ext (congrArg (fun t : GSem nD τ sig × ℕ × Bool => t.1.2) h) (congrArg (fun t : GSem nD τ sig × ℕ × Bool => t.2.2) h)))⟩

/-- A device's own tokens, -/
def ownToks (c : Dev nD) : sProp 𝕄 :=
  iprop(dutyTok ER (barCell c) 0 false ∗ dutyTok ER (barCell c) 0 true ∗ dutyTok ER (cell 22 c) 0 false ∗ dutyTok ER (cell 23 c) 0 false
    ∗ dutyTok ER (cell 24 c) 0 false ∗ dutyTok ER (cell 25 c) 0 false ∗ dutyTok ER (cell 26 c) 0 false ∗ dutyTok ER (cell 27 c) 0 false
    ∗ dutyTok ER (cell 28 c) 0 false ∗ dutyTok ER (cell 29 c) 0 false)
/-- and those of the duties it pays. -/
def payToks (c : Dev nD) : sProp 𝕄 :=
  iprop(dutyTok ER (barCell (nbrY c)) 0 false ∗ dutyTok ER (barCell (nbrX c)) 0 true ∗ sendToks c)

theorem toks_eq : bigSep allToks (fun x => (dutyTok ER x.1 x.2.1 x.2.2 : sProp 𝕄)) = bigSep Finset.univ fun c : Dev nD => ownToks c := by
  unfold allToks
  rw [bigSep_map, bigSep_univ_prod]
  exact bigSep_congr fun c _ => bigSep_univ_eq_bigSepL [(0 : Fin 10), 1, 2, 3, 4, 5, 6, 7, 8, 9] (by decide) (by decide) _

/-- Each device's token goes to the device that pays. -/
theorem toks_around : (bigSep Finset.univ fun c : Dev nD => (ownToks c : sProp 𝕄)) = bigSep Finset.univ fun c : Dev nD => payToks c := by
  unfold ownToks payToks sendToks
  simp only [bigSep_sep']
  rw [bigSep_univ_equiv swapY (fun c : Dev nD => (dutyTok ER (barCell c) 0 false : sProp 𝕄)),
    bigSep_univ_equiv swapX (fun c : Dev nD => (dutyTok ER (barCell c) 0 true : sProp 𝕄)),
    bigSep_univ_equiv swapY (fun c : Dev nD => (dutyTok ER (cell 26 c) 0 false : sProp 𝕄)),
    bigSep_univ_equiv swapY (fun c : Dev nD => (dutyTok ER (cell 27 c) 0 false : sProp 𝕄)),
    bigSep_univ_equiv swapX (fun c : Dev nD => (dutyTok ER (cell 28 c) 0 false : sProp 𝕄)),
    bigSep_univ_equiv swapX (fun c : Dev nD => (dutyTok ER (cell 29 c) 0 false : sProp 𝕄))]
  rfl

/-! ## What the launch owes -/

theorem tally_at (d c : Dev nD) (s sm : SemLoc sig) (k : ℕ) :
    (tallyAt ((d : Thread nD τ), s) () k : CellTallies nD τ sig Unit) ((c : Thread nD τ), sm) () = if d = c ∧ s = sm then k else 0 := by
  rw [tallyAt_apply]
  by_cases h : d = c ∧ s = sm
  · rw [if_pos h, if_pos ⟨by rw [h.1, h.2], rfl⟩]
  · rw [if_neg h, if_neg fun h' => h ⟨(congrArg (fun g : GSem nD τ sig => g.1.1) h'.1).symm, (congrArg Prod.snd h'.1).symm⟩]

theorem sum_at (e : Dev nD ≃ Dev nD) (c : Dev nD) (s sm : SemLoc sig) (k : ℕ) :
    (∑ d : Dev nD, if e d = c ∧ s = sm then k else 0) = if s = sm then k else 0 := by
  by_cases h : s = sm
  · rw [if_pos h]
    simp only [h, and_true]
    rw [Finset.sum_congr rfl fun d _ => if_congr (show e d = c ↔ d = e.symm c from (Equiv.eq_symm_apply e).symm) rfl rfl,
      Finset.sum_ite_eq' Finset.univ (e.symm c) fun _ => k, if_pos (Finset.mem_univ _)]
  · simp only [h, and_false, if_false, Finset.sum_const_zero]

/-- What all devices owe a cell together. -/
def total (sm : SemLoc sig) : ℕ :=
  (if (.dma 29 : SemLoc sig) = sm then NL else 0) + (if (.dma 28 : SemLoc sig) = sm then NZ else 0)
    + (if (.dma 27 : SemLoc sig) = sm then NL else 0) + (if (.dma 26 : SemLoc sig) = sm then NZ else 0)
    + (if (.reg barrier0 : SemLoc sig) = sm then 1 else 0) + (if (.reg barrier0 : SemLoc sig) = sm then 1 else 0)

theorem owed_all (c : Dev nD) (sm : SemLoc sig) : (∑ d : Dev nD, O₀ d ((c : Thread nD τ), sm) ()) = total sm := by
  unfold O₀ owedMid owedX total
  simp only [Pi.add_apply, Finsupp.add_apply, Pi.zero_apply, Finsupp.zero_apply, Nat.zero_add, tally_at, Finset.sum_add_distrib]
  have hX := fun s k => sum_at swapX c s sm k
  have hY := fun s k => sum_at swapY c s sm k
  simp only [show ∀ d, swapX d = nbrX d from fun _ => rfl] at hX
  simp only [show ∀ d, swapY d = nbrY d from fun _ => rfl] at hY
  simp only [hX, hY]

theorem launch_at (c : Dev nD) (sm : SemLoc sig) :
    tallyOn ((c : Thread nD τ), sm) (launchCredit (Pipeline.owing O₀) 0 ((c : Thread nD τ), sm))
      = (tallyAt ((c : Thread nD τ), sm) () (total sm) : CellTallies nD τ sig Unit) := by
  unfold tallyAt
  refine congrArg _ (Finsupp.ext fun u => ?_)
  cases u
  rw [Pipeline.launchCredit_owing, Finsupp.single_eq_same]
  exact owed_all c sm

theorem total_bar : total (.reg barrier0) = 2 := by
  unfold total; rw [if_neg (by decide), if_neg (by decide), if_neg (by decide), if_neg (by decide), if_pos rfl]
theorem total_26 : total (.dma 26) = NZ := by
  unfold total; rw [if_neg (by decide), if_neg (by decide), if_neg (by decide), if_pos rfl, if_neg (by decide)]; omega
theorem total_27 : total (.dma 27) = NL := by
  unfold total; rw [if_neg (by decide), if_neg (by decide), if_pos rfl, if_neg (by decide), if_neg (by decide)]; omega
theorem total_28 : total (.dma 28) = NZ := by
  unfold total; rw [if_neg (by decide), if_pos rfl, if_neg (by decide), if_neg (by decide), if_neg (by decide)]; omega
theorem total_29 : total (.dma 29) = NL := by
  unfold total; rw [if_pos rfl, if_neg (by decide), if_neg (by decide), if_neg (by decide), if_neg (by decide)]; omega

/-- A device's credit at launch. -/
theorem creds (c : Dev nD) : (Pipeline.launchCred O₀ c : sProp 𝕄) ⊢ iprop(cred (tallyAt (barCell c) () 2) ∗ recvCreds c) := by
  unfold Pipeline.launchCred recvCreds
  simp only [launch_at]
  refine (bigSep_subset (t := {.reg barrier0, .dma 26, .dma 27, .dma 28, .dma 29}) (Finset.subset_univ _)).trans ?_
  rw [bigSep_insert (by decide), bigSep_insert (by decide), bigSep_insert (by decide), bigSep_insert (by decide), bigSep_singleton,
    total_bar, total_26, total_27, total_28, total_29]
  exact BI.Entails.refl _

/-! ## The ghost state dealt -/

theorem cells_injective : Function.Injective (Pipeline.PerCore.cellOf (nD := nD) (τ := τ) (Pipeline.pinD (pcfgs (F := F)) (adm m))) :=
  Pipeline.PerCore.cellOf_injective _ (fun c p => by obtain rfl := Subsingleton.elim p 0; exact (by decide : Pipeline.SpecSemsDistinct spec0))
    (fun c p p' h => absurd (Subsingleton.elim p p') h)

/-- What the launch funds. -/
def u₀ : UU :=
  (initOf (Pipeline.PerCore.cells (Pipeline.pinD (pcfgs (F := F)) (adm m)) (cells_injective m))
      (Pipeline.PerCore.launchToks (Pipeline.pinD (pcfgs (F := F)) (adm m)) (cells_injective m)),
    (Emb.inl : Emb (URounds (GSem nD τ sig) Bool) (URounds (GSem nD τ sig) Bool × Counters)) (launchOf barCells xCells allToks))

/-- The exchange's part of it, -/
def funded : sProp 𝕄 := BI.own (ER (launchOf barCells xCells allToks))
/-- kept whole on device 0 until all devices' holdings are together. -/
def onZero (c : Dev nD) : sProp 𝕄 := if c = 0 then funded else iprop(emp)
theorem bigSep_onZero : bigSep Finset.univ (onZero (F := F)) = funded := by
  rw [bigSep_univ_at _ (0 : Dev nD), bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero
  rw [if_pos rfl]
  exact BI.equiv_iff.mp sep_emp

/-- The records every device may read. -/
def records (κ : GSem nD τ sig → ℕ) : sProp 𝕄 :=
  iprop((bigSep (barCells ∪ xCells) fun g => cellInv ER (sched (vals m)) (κ g) g) ∗ bigSep barCells fun g => reached ER g 0)

instance records_persistent (κ : GSem nD τ sig → ℕ) : BI.Persistent (records m κ) := by unfold records; infer_instance

theorem inv_of (κ : GSem nD τ sig → ℕ) {g : GSem nD τ sig} (hg : g ∈ barCells ∪ xCells) :
    (bigSep (barCells ∪ xCells) fun g => (cellInv ER (sched (vals m)) (κ g) g : sProp 𝕄)) ⊢ cellInv ER (sched (vals m)) (κ g) g := bigSep_elim hg

theorem reached_of (c : Dev nD) : (bigSep barCells fun g => (reached ER g 0 : sProp 𝕄)) ⊢ reached ER (barCell c) 0 :=
  bigSep_elim (Finset.mem_map_of_mem barEmb (Finset.mem_univ c))

theorem inv_at (κ : GSem nD τ sig → ℕ) {g : GSem nD τ sig} (hg : g ∈ barCells ∪ xCells) : records m κ ⊢ cellInv ER (sched (vals m)) (κ g) g := by
  unfold records
  iintro ⟨H, -⟩
  iapply (inv_of m κ hg) $$ H

theorem reached_at (κ : GSem nD τ sig → ℕ) (c : Dev nD) : records m κ ⊢ reached ER (barCell c) 0 := by
  unfold records
  iintro ⟨-, H⟩
  iapply (reached_of (F := F) c) $$ H

/-- A device's part of the exchange. -/
def linear (c : Dev nD) : sProp 𝕄 := iprop(atPos ER (barCell c) 0 ∅ 0 ∗ opens c ∗ payToks c)

theorem cell_mem (c : Dev nD) (k : Fin 8) (s : DmaSem sig) (h : xsem k = .dma s) : ((c : Thread nD τ), (.dma s : SemLoc sig)) ∈ barCells ∪ xCells := by
  rw [← h]; exact x_mem c k

theorem invs_intro (κ : GSem nD τ sig → ℕ) (c : Dev nD) : records m κ ⊢ invs (vals m) κ c := by
  unfold invs
  iintro #H
  isplitr
  · isplitr; · iapply (inv_at m κ (cell_mem c 0 22 rfl)) $$ H
    isplitr; · iapply (inv_at m κ (cell_mem c 1 23 rfl)) $$ H
    isplitr; · iapply (inv_at m κ (cell_mem c 2 24 rfl)) $$ H
    isplitr; · iapply (inv_at m κ (cell_mem c 3 25 rfl)) $$ H
    isplitr; · iapply (inv_at m κ (cell_mem c 4 26 rfl)) $$ H
    isplitr; · iapply (inv_at m κ (cell_mem c 5 27 rfl)) $$ H
    isplitr; · iapply (inv_at m κ (cell_mem c 6 28 rfl)) $$ H
    iapply (inv_at m κ (cell_mem c 7 29 rfl)) $$ H
  isplitr
  · isplitr; · iapply (inv_at m κ (bar_mem c)) $$ H
    isplitr; · iapply (inv_at m κ (bar_mem (nbrY c))) $$ H
    iapply (inv_at m κ (bar_mem (nbrX c))) $$ H
  isplitr; · iapply (inv_at m κ (cell_mem (nbrY c) 4 26 rfl)) $$ H
  isplitr; · iapply (inv_at m κ (cell_mem (nbrY c) 5 27 rfl)) $$ H
  isplitr; · iapply (inv_at m κ (cell_mem (nbrX c) 6 28 rfl)) $$ H
  iapply (inv_at m κ (cell_mem (nbrX c) 7 29 rfl)) $$ H

theorem deal (κ : GSem nD τ sig → ℕ) (c : Dev nD) :
    iprop(records m κ ∗ linear c ∗ cred (tallyAt (barCell c) () 2) ∗ recvCreds c) ⊢ dealt (vals m) c := by
  unfold linear dealt barToks barsOpen payToks
  iintro ⟨#HR, ⟨HP, HO, HY, HX, HS⟩, HB, HC⟩
  iexists κ
  isplitr; · iapply (invs_intro m κ c) $$ HR
  isplitl [HS]; · iexact HS
  isplitl [HO]; · iexact HO
  isplitl [HC]; · iexact HC
  isplitl [HY HX HP HB]
  · isplitl [HY]; · iexact HY
    isplitl [HX]; · iexact HX
    isplitl [HP]; · iexact HP
    iexact HB
  isplitr; · iapply (reached_at m κ (nbrY c)) $$ HR
  iapply (reached_at m κ (nbrX c)) $$ HR

/-- What a device holds at the launch beside its part of the exchange. -/
def bundle (c : Dev nD) : sProp 𝕄 :=
  iprop(heldAt c (V0 m c) ∗ (cred (tallyAt (barCell c) () 2) ∗ recvCreds c) ∗ owes (c : Thread nD τ) (O₀ c) ∅)

/-- What a device starts with. -/
abbrev T₀ (c : Dev nD) : sProp 𝕄 := iprop(heldAt c (V0 m c) ∗ before m c)
/-- What a device ends with. -/
abbrev Tₙ (c : Dev nD) : sProp 𝕄 := iprop(heldAt c (V3 m (outsOf m) c) ∗ semVal (barCell c) 0)

theorem starts (κ : GSem nD τ sig → ℕ) (c : Dev nD) : iprop(records m κ ∗ (linear c ∗ bundle m c)) ⊢ T₀ m c := by
  unfold bundle T₀ before
  iintro ⟨#HR, HL, HH, HC, HO⟩
  isplitl [HH]; · iexact HH
  isplitr [HO]
  · iapply (deal m κ c)
    isplitr; · iexact HR
    isplitl [HL]; · iexact HL
    iexact HC
  · iexists ∅; iexact HO

theorem bar_counter (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- A device's holdings at the launch. -/
theorem sorted (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ onZero c)
    ⊢ (iprop(bundle m c ∗ (semVal (barCell c) 0 ∗ onZero c)) : sProp 𝕄) := by
  rewrite [show (unscopedBufs c (fun b => m ((c : Thread nD τ).loc b)) : sProp 𝕄) = heldAt c (V0 m c) from
    Pipeline.unscopedBufs_held (Ix := Unit) (Name := ℕ) (U := UU) (Lvl := ℕ) c (V0 m c), bar_counter]
  unfold bundle
  iintro ⟨HH, HS, HO, HC, -, HG⟩
  isplitl [HH HC HO]
  · isplitl [HH]; · iexact HH
    isplitl [HC]; · iapply (creds (F := F) c) $$ HC
    iexact HO
  isplitl [HS] <;> iassumption

theorem families {Φ Ψ : Dev nD → sProp 𝕄} : bigSep Finset.univ (fun c => iprop(Φ c ∗ Ψ c)) ⊢ iprop(bigSep Finset.univ Φ ∗ bigSep Finset.univ Ψ) :=
  Entails.of_eq (bigSep_sep' _ _ _)
theorem families_back {Φ Ψ : Dev nD → sProp 𝕄} : iprop(bigSep Finset.univ Φ ∗ bigSep Finset.univ Ψ) ⊢ bigSep Finset.univ (fun c => iprop(Φ c ∗ Ψ c)) :=
  Entails.of_eq (bigSep_sep' _ _ _).symm

/-- The launch: the exchange funded, and its parts dealt to the devices. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ onZero c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep xCells (fun g => (openTok ER g : sProp 𝕄)) ⊢ bigSep Finset.univ (fun c : Dev nD => (opens c : sProp 𝕄)) :=
    Entails.of_eq (by
      rw [bigSep_map, bigSep_univ_prod]
      exact bigSep_congr fun c _ => bigSep_univ_eq_bigSepL [(0 : Fin 8), 1, 2, 3, 4, 5, 6, 7] (by decide) (by decide) _)
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ onZero c))
      ⊢ (bigSep Finset.univ fun c : Dev nD => iprop(bundle m c ∗ (semVal (barCell c) 0 ∗ onZero c)) : sProp 𝕄) from bigSep_mono fun c _ => sorted m ρ c) $$ H
  ihave H := families $$ H
  icases H with ⟨HB, H⟩
  ihave H := families $$ H
  icases H with ⟨HS, HG⟩
  ihave HG := (Entails.of_eq (bigSep_onZero (F := F))) $$ HG
  unfold funded
  imod (Rounds.fund_launch ER (sched (vals m)) disjoint_cells (fun g _ h => h) allToks) $$ [HS HG] with ⟨%κ, -, #HI, #HR, HP, HO, HT⟩
  · isplitl [HS]; · iapply hv $$ HS
    iexact HG
  imodintro
  iapply (bigSep_with_persistent (R := records m κ) (Φ := fun c => iprop(linear c ∗ bundle m c)) fun c _ => starts m κ c)
  isplitr
  · unfold records
    isplitr; · iexact HI
    iexact HR
  iapply families_back
  isplitr [HB]
  · unfold linear
    iapply families_back; isplitl [HP]; · iapply hat $$ HP
    iapply families_back; isplitl [HO]; · iapply hopen $$ HO
    iapply (Entails.of_eq (toks_around (F := F)))
    iapply (Entails.of_eq (toks_eq (F := F))) $$ HT
  · iexact HB

/-! ## The run -/

theorem only_bar : ∀ sm : SemLoc sig, sm.isScoped .tc = false → sm = .reg barrier0 := by decide

/-- The states between the pieces of the program. -/
def restAt : Fin 2 → Dev nD → sProp 𝕄 := fun | 0 => before m | 1 => afterwards

/-- The program's pieces on a device. -/
abbrev pieces (c : Dev nD) : List (Pipeline.PerCore.Seg (pcfgs (F := F)) (adm m) (dats m) () defs₀ Variants.none L lv) :=
  [.host (seg0 m Variants.none L lv (restAt m) c), .region (region m), .host (seg2 m (outsOf m) Variants.none L lv (restAt m))]

/-- What a final state holds of a device: the arguments as launched, the result, and its barrier at zero. -/
def finalAt (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_v8) = V3 m (outsOf m) c main_v8)
  ∧ s.sem (barCell c) = 0

theorem read_final (c : Dev nD) (s' : Phys nD τ sig (Elt F)) : iprop(Tₙ m c ∗ SI s') ⊢ (|={Set.univ}=> iprop(⌜finalAt m c s'.mem⌝ ∗ SI s') : sProp 𝕄) := by
  unfold Tₙ heldAt StableHlo.held
  iintro ⟨⟨HH, HB⟩, HSI⟩
  ihave H := (pointsTo_read_all (Pipeline.ucRefs τ sig) (fun b => ((c : Thread nD τ).1, b)) (V3 m (outsOf m) c) s') $$ [HH HSI]
  · isplitl [HH] <;> iassumption
  icases H with ⟨%h, HSI⟩
  icombine HSI HB gives %hb
  imodintro
  isplitr
  · ipureintro
    exact ⟨⟨(h (Proc.devRef .tc main_arg0) (Finset.mem_filter.mpr ⟨StableHlo.devRef_mem_tcRefs main_arg0, by decide⟩)).trans (V3_main_arg0 m (outsOf m) c),
      (h (Proc.devRef .tc main_arg1) (Finset.mem_filter.mpr ⟨StableHlo.devRef_mem_tcRefs main_arg1, by decide⟩)).trans (V3_main_arg1 m (outsOf m) c),
      (h (Proc.devRef .tc main_arg2) (Finset.mem_filter.mpr ⟨StableHlo.devRef_mem_tcRefs main_arg2, by decide⟩)).trans (V3_main_arg2 m (outsOf m) c),
      h (Proc.devRef .tc main_v8) (Finset.mem_filter.mpr ⟨StableHlo.devRef_mem_tcRefs main_v8, by decide⟩)⟩, by simpa using hb⟩
  · iexact HSI

set_option backward.isDefEq.respectTransparency.types false in
/-- The run: every weakly fair execution ends, with the arguments as launched, the result on every device and every
    counter at zero. -/
theorem run_main : θ_run defs (onTc (τ := τ) (main (F := F))) ⟨m, fun _ => 0, ρ⟩
    (fun r => (∀ c : Dev nD, finalAt m c r.2) ∧ r.2.sem = fun _ => 0) :=
  Pipeline.PerCore.θ_run_regions_kit_sems (pcfgs (F := F)) (adm m) (dats m) () (cells_injective m) embL defs₀ Variants.none L lv m ρ main (pieces m)
    (fun c Q => by
      rewrite [main_chain c, Pipeline.PerCore.Seg.run_eq_chain,
        show (pieces m c).map Pipeline.PerCore.Seg.prog = [
          StableHlo.seq (hostOps0 c),
          Prog.lift (.customCall (Pipeline.entry 0) ()),
          StableHlo.seq hostOps1 ] from rfl]
      dsimp (config := { failIfUnchanged := false }) only
      exact .rfl)
    (fun c => by simp only [pieces, Pipeline.PerCore.Seg.pipes_host, Pipeline.PerCore.Seg.pipes_region, Pipeline.PerCore.Seg.pipes_nil]; decide)
    (O₀ := O₀) (hL := L_of_ne) (G := onZero) (u₀ := u₀ m)
    (hu₀ := by
      unfold u₀
      iintro Hu
      ihave H := (ownU_pair _ _) $$ Hu
      icases H with ⟨HP, HX⟩
      imodintro
      isplitl [HP]; · iexact HP
      rewrite [bigSep_onZero]
      unfold funded
      iexact HX)
    (T₀ := T₀ m) (Tₙ := Tₙ m)
    (hch := fun c => ⟨.rfl, .rfl, .rfl, by
      show iprop(heldAt c (V3 m (outsOf m) c) ∗ afterwards c) ⊢ iprop(Tₙ m c ∗ ∃ W, owes (c : Thread nD τ) (0 : CellTallies nD τ sig Unit) W)
      iintro ⟨HH, HB, HO⟩
      isplitr [HO]
      · isplitl [HH] <;> iassumption
      · iexact HO⟩)
    (hinit := init m ρ)
    (QY := fun c s => finalAt m c s)
    (hfin := fun c s' => read_final m c s')
    (hQ := fun s h hs => ⟨h, sem_eq_zero hs fun c sm hsm => by
      obtain rfl := only_bar sm hsm
      exact (h c).2⟩)

end Cert.KProof
-- ==== Proof.Same.lean ====
/- The kernel as printed and its idealization have the same text: over any float values they are the same program. -/
module

public import proofs.«01_k».proof.Proof.Gen.Kernel
public import proofs.«01_k».proof.Proof.Gen.KernelIdeal

@[expose] public section

set_option maxHeartbeats 4000000

namespace Cert.KProof

open Idealize.ShloMosaic Idealize.SL.Sem

variable {F : FTy → Type} [FloatOps F]

/-- The two host programs, -/
theorem main_same : @Cert.Kernel.main F _ _ = @Cert.KernelIdeal.main F _ _ := rfl
/-- the two bodies, -/
theorem body_same : @Cert.Kernel.cc0_body F _ _ = @Cert.KernelIdeal.cc0_body F _ _ := rfl
/-- and the tables that name them. -/
theorem table_same : Cert.Kernel.defs₀ (F := F) = Cert.KernelIdeal.defs₀ (F := F) := by
  unfold Cert.Kernel.defs₀ Cert.KernelIdeal.defs₀
  refine congrArg Defs.onTc (funext fun l => funext fun a => ?_)
  obtain rfl := Subsingleton.elim l 0
  obtain ⟨t, s⟩ := a
  have h := body_same (F := F)
  rfl
theorem defs_same : @Cert.Kernel.defs F _ _ = @Cert.KernelIdeal.defs F _ _ :=
  congrArg (fun d => Pipeline.defs (Cert.KernelIdeal.pcfgs (F := F)) d) (table_same (F := F))

/-- So their runs are the same. -/
theorem run_same : (fun s Q => θ_run (Cert.Kernel.defs (F := F)) (onTc (τ := Cert.Kernel.τ) (Cert.Kernel.main (F := F))) s Q)
    = (fun s Q => θ_run (Cert.KernelIdeal.defs (F := F)) (onTc (τ := Cert.KernelIdeal.τ) (Cert.KernelIdeal.main (F := F))) s Q) :=
  congr (congrArg (fun d p => fun s Q => θ_run d (onTc (τ := Cert.KernelIdeal.τ) p) s Q) (defs_same (F := F))) (main_same (F := F))

end Cert.KProof

end
-- ==== Proof.Read.lean ====
/- The kernel's pieces read at an index, over the extended reals. -/
module

public import proofs.«01_k».proof.Proof.TailValues
public import proofs.«01_k».proof.Proof.State
public import Idealize.ShloMosaic.Lib.Pointwise

@[expose] public section

noncomputable section

namespace Cert.KProof

open Cert.KernelIdeal Cert.KernelIdeal.Gen
open Idealize.ShloMosaic

/-- The factor the scores take. -/
def scl : EReal := Ideal.ofBits .f32 0x3DB504F3#32

theorem bot_word : Ideal.ofBits .f32 0xFF800000#32 = ⊥ := by simp [Ideal.ofBits, Ideal.ieee]

theorem scl_real : ∃ r : ℝ, scl = (r : EReal) := by
  unfold scl
  simp only [Ideal.ofBits, Ideal.ieee]
  exact ⟨_, by rw [if_neg (by decide), if_neg (by decide)]⟩

theorem low_real : ∃ r : ℝ, Ideal.ofBits .f32 0xF149F2CA#32 = (r : EReal) := by
  simp only [Ideal.ofBits, Ideal.ieee]
  exact ⟨_, by rw [if_neg (by decide), if_neg (by decide)]⟩

section Head

variable (q : FVec Ideal S4x32x128 .f32) (k v : FVec Ideal S1x4x512x128 .f32) (m l : FVec Ideal S4x32x1 .f32) (a : FVec Ideal S4x32x128 .f32)

/-- A block's scores. -/
def score (b : Fin 4) (s : Fin 32) (j : Fin 512) : EReal := ∑ d : Fin 128, q (ix3 b s d) * scl * k (ix4 (0 : Fin 1) b j d)

theorem headM_at (b : Fin 4) (s : Fin 32) :
    headM q k m (ix3 b s (0 : Fin 1)) = max (m (ix3 b s 0)) (Finset.univ.fold max ⊥ fun j => score q k b s j) := by
  pointwise [headM, k0_pay2, k0_pay159, k0_pay158, bot_word]
  rfl

theorem headL_at (b : Fin 4) (s : Fin 32) :
    headL q k m l (ix3 b s (0 : Fin 1)) = l (ix3 b s 0) * Ideal.exp (m (ix3 b s 0) - headM q k m (ix3 b s 0))
      + ∑ j : Fin 512, Ideal.exp (score q k b s j - headM q k m (ix3 b s 0)) := by
  pointwise [headL, headM, k0_pay2, k0_pay3, k0_pay162, k0_pay161, k0_pay160, k0_pay158]
  rfl

theorem headA_at (b : Fin 4) (s : Fin 32) (d : Fin 128) :
    headA q k v m a (ix3 b s d) = a (ix3 b s d) * Ideal.exp (m (ix3 b s 0) - headM q k m (ix3 b s 0))
      + ∑ j : Fin 512, Ideal.exp (score q k b s j - headM q k m (ix3 b s 0)) * v (ix4 (0 : Fin 1) b j d) := by
  pointwise [headA, headM, k0_pay1, k0_pay2, k0_pay163, k0_pay161, k0_pay160, k0_pay158]
  rfl

end Head

section Mix

variable (a : FVec Ideal S4x32x128 .f32) (l : FVec Ideal S4x32x1 .f32) (ml ll : FVec Ideal S4x32x8 .f32)
  (za zb : FVec Ideal S4x32x128 .bf16) (la lb : FVec Ideal S4x32x1 .f32) (b : Fin 4) (s : Fin 32)

theorem headZ_at (d : Fin 128) : headZ a l (ix3 b s d) = Ideal.div (a (ix3 b s d)) (l (ix3 b s 0)) := by
  pointwise [headZ, k0_pay12]

theorem l1Of_at (h : Fin 8) : l1Of ml ll (ix3 b s h) = ml (ix3 b s h) + Ideal.log (ll (ix3 b s h)) := by
  pointwise [l1Of, k0_pay13]

theorem mixZ_at (d : Fin 128) {mt : EReal} (hm : mt = max (la (ix3 b s 0)) (lb (ix3 b s 0))) :
    mixZ za la zb lb (ix3 b s d) = Ideal.div (za (ix3 b s d) * Ideal.exp (la (ix3 b s 0) - mt) + zb (ix3 b s d) * Ideal.exp (lb (ix3 b s 0) - mt))
      (Ideal.exp (la (ix3 b s 0) - mt) + Ideal.exp (lb (ix3 b s 0) - mt)) := by
  subst hm
  pointwise [mixZ, k0_pay43, k0_pay42, k0_pay41, k0_pay40, k0_pay39]

theorem mixO_at (d : Fin 128) {mt : EReal} (hm : mt = max (la (ix3 b s 0)) (lb (ix3 b s 0))) :
    mixO za la zb lb (ix3 b s d) = Ideal.div (za (ix3 b s d) * Ideal.exp (la (ix3 b s 0) - mt) + zb (ix3 b s d) * Ideal.exp (lb (ix3 b s 0) - mt))
      (Ideal.exp (la (ix3 b s 0) - mt) + Ideal.exp (lb (ix3 b s 0) - mt)) := by
  subst hm
  pointwise [mixO, k0_pay80]

theorem mixL_at {mt : EReal} (hm : mt = max (la (ix3 b s 0)) (lb (ix3 b s 0))) :
    mixL la lb (ix3 b s (0 : Fin 1)) = mt + Ideal.log (Ideal.exp (la (ix3 b s 0) - mt) + Ideal.exp (lb (ix3 b s 0) - mt)) := by
  subst hm
  pointwise [mixL, k0_pay44, k0_pay42, k0_pay41, k0_pay40, k0_pay39]

end Mix

theorem run0_a (b : Fin 4) (s : Fin 32) (n : Fin 1024) : (run0 (F := Ideal)).a (ix3 b s n) = (0 : EReal) := by
  pointwise [run0, k0_pay91]
theorem run0_m (b : Fin 4) (s : Fin 32) (h : Fin 8) : (run0 (F := Ideal)).m (ix3 b s h) = Ideal.ofBits .f32 0xF149F2CA#32 := by
  pointwise [run0, k0_pay92]
theorem run0_l (b : Fin 4) (s : Fin 32) (h : Fin 8) : (run0 (F := Ideal)).l (ix3 b s h) = (0 : EReal) := by
  pointwise [run0, k0_pay93]

end Cert.KProof

end
-- ==== Proof.Blocks.lean ====
/- What the grid points' blocks hold, element by element, and where the output block goes. -/
module

public import proofs.«01_k».proof.Proof.Kit
public import proofs.«01_k».proof.Proof.Read

@[expose] public section

set_option maxRecDepth 4000
set_option maxHeartbeats 1000000

noncomputable section

namespace Cert.KProof

open Cert.KernelIdeal Cert.KernelIdeal.Gen
open Idealize.ShloMosaic Idealize.ShloMosaic.TcCoe
open Idealize.ShloMosaic.Pipeline (Dat)

variable {F : FTy → Type} [FloatOps F]

variable (m : (ℓ : Loc nD τ sig) → Buf (Elt F) ℓ) (c : Dev nD)

/-- A device's query, keys and values as launched. -/
abbrev argQ : FVec F S4x32x8x128 .f32 := m ((c : Thread nD τ).loc main_arg0)
abbrev argK : FVec F S4x4096x8x128 .f32 := m ((c : Thread nD τ).loc main_arg1)
abbrev argV : FVec F S4x4096x8x128 .f32 := m ((c : Thread nD τ).loc main_arg2)

theorem coord_val : ∀ t : Fin grid0.N, ((grid0.coords t) 0).val = t.val := by decide

/-- The key a block's row is, counted within the device's own part. -/
def row (c : Dev nD) (t : Fin grid0.N) (j : Fin 512) : Fin 4096 :=
  ⟨512 * (4 * (c.val % 2) + t.val) + j.val, by
    have := j.isLt; have h : t.val < 4 := t.isLt; have := Nat.mod_lt c.val (show 0 < 2 by decide); omega⟩

theorem kBlk_at (t : Fin grid0.N) (b : Fin 4) (j : Fin 512) (h : Fin 8) (d : Fin 128) :
    kBlk m c t (ix4 b j h d) = argK m c (ix4 b (row c t j) h d) := by
  have hA : arrV m c 1 = m ((c : Thread nD τ).loc main_arg1) := (V1_of m c main_arg1 (by decide)).trans rfl
  have hi := transform1_eq m c (grid0.coords t)
  rw [coord_val] at hi
  refine (congrFun hA _).trans (congrArg (argK m c) (funext fun a => Fin.ext ?_))
  have ho : ∀ a : Fin 4, ((cfgOf m c).win 1).index t a = (![0, 4 * (c.val % 2) + t.val, 0, 0] : Fin 4 → ℕ) a := fun a => congrFun hi a
  show ((cfgOf m c).win 1).index t a * S4x512x8x128.size a + 1 * ((ix4 b j h d : S4x512x8x128.Idx) a).val = _
  rw [ho a]
  fin_cases a
  · show 0 * 4 + 1 * b.val = b.val; omega
  · show (4 * (c.val % 2) + t.val) * 512 + 1 * j.val = 512 * (4 * (c.val % 2) + t.val) + j.val; omega
  · show 0 * 8 + 1 * h.val = h.val; omega
  · show 0 * 128 + 1 * d.val = d.val; omega

theorem vBlk_at (t : Fin grid0.N) (b : Fin 4) (j : Fin 512) (h : Fin 8) (d : Fin 128) :
    vBlk m c t (ix4 b j h d) = argV m c (ix4 b (row c t j) h d) := by
  have hA : arrV m c 2 = m ((c : Thread nD τ).loc main_arg2) := (V1_of m c main_arg2 (by decide)).trans rfl
  have hi := transform2_eq m c (grid0.coords t)
  rw [coord_val] at hi
  refine (congrFun hA _).trans (congrArg (argV m c) (funext fun a => Fin.ext ?_))
  have ho : ∀ a : Fin 4, ((cfgOf m c).win 2).index t a = (![0, 4 * (c.val % 2) + t.val, 0, 0] : Fin 4 → ℕ) a := fun a => congrFun hi a
  show ((cfgOf m c).win 2).index t a * S4x512x8x128.size a + 1 * ((ix4 b j h d : S4x512x8x128.Idx) a).val = _
  rw [ho a]
  fin_cases a
  · show 0 * 4 + 1 * b.val = b.val; omega
  · show (4 * (c.val % 2) + t.val) * 512 + 1 * j.val = 512 * (4 * (c.val % 2) + t.val) + j.val; omega
  · show 0 * 8 + 1 * h.val = h.val; omega
  · show 0 * 128 + 1 * d.val = d.val; omega

/-- A lane of a head, in the row that holds the heads side by side. -/
def lane (h : Fin 8) (d : Fin 128) : Fin 1024 := ⟨128 * h.val + d.val, by have := h.isLt; have := d.isLt; omega⟩

/-- Heads side by side, as the host lays them out. -/
theorem pack_at {V : Type} (hn : S4x32x8x128.ShapeCasts S4x32x1024) (x : S4x32x8x128.Idx → V) (b : Fin 4) (s : Fin 32) (h : Fin 8) (d : Fin 128) :
    shapeCast S4x32x1024 x hn (ix3 b s (lane h d)) = x (ix4 b s h d) := by
  pointwise [lane]

theorem unpack_at {V : Type} (hn : S4x32x1024.ShapeCasts S4x32x8x128) (x : S4x32x1024.Idx → V) (b : Fin 4) (s : Fin 32) (h : Fin 8) (d : Fin 128) :
    shapeCast S4x32x8x128 x hn (ix4 b s h d) = x (ix3 b s (lane h d)) := by
  pointwise [lane]
  exact congrArg (fun n => x (ix3 b s n)) (Fin.ext (by show h.val * 128 + d.val = 128 * h.val + d.val; omega))

theorem qBlk_at (t : Fin grid0.N) (b : Fin 4) (s : Fin 32) (h : Fin 8) (d : Fin 128) :
    qBlk m c t (ix3 b s (lane h d)) = argQ m c (ix4 b s h d) := by
  have hA : (V1 m c main_v6 : FVec F S4x32x1024 .f32) = shapeCast S4x32x1024 (argQ m c) := rfl
  refine Eq.trans ?_ (pack_at (by decide) (argQ m c) b s h d)
  rw [← hA]
  refine congrArg (V1 m c main_v6 : FVec F S4x32x1024 .f32) (funext fun a => Fin.ext ?_)
  have ho : ∀ a : Fin 3, ((cfgOf m c).win 0).index t a = 0 := fun a => by fin_cases a <;> rfl
  show ((cfgOf m c).win 0).index t a * S4x32x1024.size a + 1 * ((ix3 b s (lane h d) : S4x32x1024.Idx) a).val = _
  rw [ho a]
  omega

/-! ## The output -/

/-- The output block is the whole array, -/
theorem outBlk_emb (t : Fin grid0.N) (ix : S4x32x1024.Idx) : ((((cfgOf m c).win 3).blk t).view).emb ix = ix := by
  funext a
  refine Fin.ext ?_
  have ho : ∀ a : Fin 3, ((cfgOf m c).win 3).index t a = 0 := fun a => by fin_cases a <;> rfl
  show ((cfgOf m c).win 3).index t a * S4x32x1024.size a + 1 * (ix a).val = (ix a).val
  rw [ho a]
  omega

/-- and read back, it is the array itself. -/
theorem outBlk_read (t : Fin grid0.N) (X : FVec F S4x32x1024 .f32) : (((cfgOf m c).win 3).blk t).view.read (Elt F) X = X :=
  funext fun ix => congrArg X (outBlk_emb m c t ix)

/-- The kernel's region leaves a device's output block in its output array. -/
theorem arrOut_eq : arrOut m c = outV m c := by
  refine (dat m c).arrAt_eq_of_cover (3 : Fin 4) (outV m c) (fun t _ => (Eq.trans ?_ (outBlk_read m c t (outV m c)).symm)) fun i => ?_
  · rfl
  · refine ⟨(3 : Fin 4), (flush_out m c (3 : Fin 4)).trans (by decide), ?_⟩
    have h := ((((cfgOf m c).win 3).blk (3 : Fin 4)).view).emb_mem_set i
    exact Eq.mp (congrArg (· ∈ ((((cfgOf m c).win 3).blk (3 : Fin 4)).view).set) (outBlk_emb m c (3 : Fin 4) i)) h

theorem hostOps1_result (V : Valuation τ sig (Elt F)) :
    (StableHlo.after hostOps1 V main_v8 : FVec F S4x32x8x128 .f32) = shapeCast S4x32x8x128 (V main_v7 : FVec F S4x32x1024 .f32) := rfl

/-- What a device returns: its output block, the heads apart again. -/
theorem result_at (b : Fin 4) (s : Fin 32) (h : Fin 8) (d : Fin 128) :
    (V3 m (outsOf m) c main_v8 : FVec F S4x32x8x128 .f32) (ix4 b s h d) = outV m c (ix3 b s (lane h d)) :=
  (congrFun (hostOps1_result (V2 m (outsOf m) c)) _).trans ((unpack_at _ _ b s h d).trans
    (congrFun ((V2_out m c).trans (arrOut_eq m c)) _))

end Cert.KProof
-- ==== Proof.Soft.lean ====
/- Softmax-weighted sums over the extended reals, put together from parts: a running maximum, denominator and
   numerator over a set of keys; the weighted mean and the logarithm of the denominator; and the mean of two
   disjoint sets of keys from the means of each. Scores are real, the values weighted may be infinite. -/
module

public import Idealize.ShloMosaic.PureOps.Ideal
public import Mathlib.Data.EReal.Operations
public import Mathlib.Algebra.BigOperators.Field

@[expose] public section

noncomputable section

namespace Cert.KProof

open Idealize.ShloMosaic

variable {ι : Type*} [DecidableEq ι]

/-! ## Real factors and sums -/

theorem coe_sum (J : Finset ι) (f : ι → ℝ) : ((∑ j ∈ J, f j : ℝ) : EReal) = ∑ j ∈ J, (f j : EReal) := by
  induction J using Finset.induction_on with
  | empty => simp
  | insert a J h ih => rw [Finset.sum_insert h, Finset.sum_insert h, EReal.coe_add, ih]

theorem coe_mul_add {r : ℝ} (hr : 0 ≤ r) (x y : EReal) : (r : EReal) * (x + y) = (r : EReal) * x + (r : EReal) * y :=
  EReal.left_distrib_of_nonneg_of_ne_top (by exact_mod_cast hr) (EReal.coe_ne_top r) x y

theorem add_mul_coe {r : ℝ} (hr : 0 ≤ r) (x y : EReal) : (x + y) * (r : EReal) = x * (r : EReal) + y * (r : EReal) := by
  rw [mul_comm, coe_mul_add hr, mul_comm x, mul_comm y]

theorem coe_mul_sum {r : ℝ} (hr : 0 ≤ r) (J : Finset ι) (f : ι → EReal) : (r : EReal) * ∑ j ∈ J, f j = ∑ j ∈ J, (r : EReal) * f j := by
  induction J using Finset.induction_on with
  | empty => simp
  | insert a J h ih => rw [Finset.sum_insert h, Finset.sum_insert h, coe_mul_add hr, ih]

/-- A weighted sum with every weight multiplied by one real. -/
theorem scale_weights {r : ℝ} (hr : 0 ≤ r) (J : Finset ι) (w : ι → ℝ) (v : ι → EReal) :
    (∑ j ∈ J, (w j : EReal) * v j) * (r : EReal) = ∑ j ∈ J, ((w j * r : ℝ) : EReal) * v j := by
  rw [mul_comm, coe_mul_sum hr]
  refine Finset.sum_congr rfl fun j _ => ?_
  rw [← mul_assoc, ← EReal.coe_mul, mul_comm r]

/-- A real, or a maximum of reals with one. -/
theorem max_fold_real (x : ℝ) (J : Finset ι) (f : ι → ℝ) :
    ∃ M : ℝ, max (x : EReal) (J.fold max ⊥ fun j => (f j : EReal)) = (M : EReal) := by
  induction J using Finset.induction_on with
  | empty => exact ⟨x, by simp⟩
  | insert a J h ih =>
    obtain ⟨M, hM⟩ := ih
    refine ⟨max (f a) M, ?_⟩
    rw [Finset.fold_insert h, max_left_comm, hM]
    exact (EReal.coe_strictMono.monotone.map_max).symm

theorem fold_real (J : Finset ι) (hJ : J.Nonempty) (f : ι → ℝ) : ∃ M : ℝ, (J.fold max ⊥ fun j => (f j : EReal)) = (M : EReal) := by
  obtain ⟨a, ha⟩ := hJ
  obtain ⟨M, hM⟩ := max_fold_real (f a) (J.erase a) f
  exact ⟨M, by rw [← Finset.insert_erase ha, Finset.fold_insert (Finset.notMem_erase a J), hM]⟩

/-! ## The running sums -/

/-- What the running maximum, denominator and numerator are over a set of keys: any real for the maximum, and the two
    sums taken relative to it. -/
def Sums (J : Finset ι) (s : ι → ℝ) (v : ι → EReal) (a m l : EReal) : Prop :=
  ∃ M : ℝ, m = (M : EReal) ∧ l = ((∑ j ∈ J, Real.exp (s j - M) : ℝ) : EReal)
    ∧ a = ∑ j ∈ J, ((Real.exp (s j - M) : ℝ) : EReal) * v j

theorem Sums.empty (s : ι → ℝ) (v : ι → EReal) (M : ℝ) : Sums ∅ s v 0 (M : EReal) 0 := ⟨M, rfl, by simp, by simp⟩

theorem Sums.step {J B J' : Finset ι} {s : ι → ℝ} {v : ι → EReal} {a m l : EReal} (h : Sums J s v a m l) (hd : Disjoint J B)
    (hu : J' = J ∪ B) {m' : EReal} (hm : m' = max m (B.fold max ⊥ fun j => (s j : EReal))) :
    Sums J' s v (a * Ideal.exp (m - m') + ∑ j ∈ B, Ideal.exp ((s j : EReal) - m') * v j) m'
      (l * Ideal.exp (m - m') + ∑ j ∈ B, Ideal.exp ((s j : EReal) - m')) := by
  obtain ⟨M, rfl, rfl, rfl⟩ := h
  obtain ⟨M', hM'⟩ := max_fold_real M B s
  rw [hM'] at hm
  subst hm hu
  have hw : ∀ j, Real.exp (s j - M) * Real.exp (M - M') = Real.exp (s j - M') := fun j => by rw [← Real.exp_add]; congr 1; ring
  have he : ∀ x : ℝ, Ideal.exp ((x : EReal) - (M' : EReal)) = ((Real.exp (x - M') : ℝ) : EReal) := fun x => by
    rw [← EReal.coe_sub, Ideal.exp_coe]
  simp only [he]
  refine ⟨M', rfl, ?_, ?_⟩
  · rw [← coe_sum, ← EReal.coe_mul, ← EReal.coe_add, Finset.sum_union hd, Finset.sum_mul]
    simp only [hw]
  · rw [scale_weights (Real.exp_pos _).le, Finset.sum_union hd]
    simp only [hw]

/-! ## The weighted mean -/

/-- The sum of the keys' exponentials. -/
def weight (J : Finset ι) (s : ι → ℝ) : ℝ := ∑ j ∈ J, Real.exp (s j)

theorem weight_pos {J : Finset ι} (hJ : J.Nonempty) (s : ι → ℝ) : 0 < weight J s := Finset.sum_pos (fun _ _ => Real.exp_pos _) hJ

/-- The mean of the values, each weighted by its key's exponential. -/
def mean (J : Finset ι) (s : ι → ℝ) (v : ι → EReal) : EReal := ∑ j ∈ J, ((Real.exp (s j) / weight J s : ℝ) : EReal) * v j

theorem weight_shift (J : Finset ι) (s : ι → ℝ) (M : ℝ) : ∑ j ∈ J, Real.exp (s j - M) = weight J s * Real.exp (-M) := by
  rw [weight, Finset.sum_mul]
  exact Finset.sum_congr rfl fun j _ => by rw [← Real.exp_add, sub_eq_add_neg]

theorem div_real {r : ℝ} (hr : r ≠ 0) (x : EReal) : Ideal.div x (r : EReal) = x * ((1 / r : ℝ) : EReal) := Ideal.div_coe hr x

/-- The mean from the running sums, -/
theorem Sums.mean {J : Finset ι} (hJ : J.Nonempty) {s : ι → ℝ} {v : ι → EReal} {a m l : EReal} (h : Sums J s v a m l) :
    Ideal.div a l = mean J s v := by
  obtain ⟨M, rfl, rfl, rfl⟩ := h
  have ht := weight_pos hJ s
  have hp : 0 < weight J s * Real.exp (-M) := mul_pos ht (Real.exp_pos _)
  rw [weight_shift, div_real hp.ne', scale_weights (one_div_pos.mpr hp).le, KProof.mean]
  refine Finset.sum_congr rfl fun j _ => ?_
  congr 2
  have := (Real.exp_pos (-M)).ne'
  rw [sub_eq_add_neg, Real.exp_add]
  field_simp

/-- and the total's logarithm. -/
theorem Sums.log {J : Finset ι} (hJ : J.Nonempty) {s : ι → ℝ} {v : ι → EReal} {a m l : EReal} (h : Sums J s v a m l) :
    m + Ideal.log l = ((Real.log (weight J s) : ℝ) : EReal) := by
  obtain ⟨M, rfl, rfl, rfl⟩ := h
  have ht := weight_pos hJ s
  have hp : 0 < weight J s * Real.exp (-M) := mul_pos ht (Real.exp_pos _)
  rw [weight_shift, Ideal.log_coe, if_neg (not_le.mpr hp), ← EReal.coe_add, Real.log_mul ht.ne' (Real.exp_pos _).ne', Real.log_exp]
  congr 1; ring

section Two

variable {J B U : Finset ι} (hJ : J.Nonempty) (hB : B.Nonempty) (hd : Disjoint J B) (hU : U = J ∪ B) (s : ι → ℝ) (v : ι → EReal)
  {la lb mt : EReal} (ha : la = ((Real.log (weight J s) : ℝ) : EReal)) (hb : lb = ((Real.log (weight B s) : ℝ) : EReal)) (hm : mt = max la lb)
include hJ hB hd hU ha hb hm

omit hJ hB ha hb hm in
theorem weight_two : weight U s = weight J s + weight B s := by rw [hU, weight, Finset.sum_union hd]; rfl

theorem two_weights : ∃ M : ℝ, mt = (M : EReal) ∧ Ideal.exp (la - mt) = ((weight J s * Real.exp (-M) : ℝ) : EReal)
    ∧ Ideal.exp (lb - mt) = ((weight B s * Real.exp (-M) : ℝ) : EReal)
    ∧ Ideal.exp (la - mt) + Ideal.exp (lb - mt) = ((weight U s * Real.exp (-M) : ℝ) : EReal) := by
  have hM : mt = ((max (Real.log (weight J s)) (Real.log (weight B s)) : ℝ) : EReal) := by
    rw [hm, ha, hb]; exact (EReal.coe_strictMono.monotone.map_max).symm
  refine ⟨_, hM, ?_⟩
  generalize max (Real.log (weight J s)) (Real.log (weight B s)) = M at hM
  have h1 : ∀ t : ℝ, 0 < t → Real.exp (Real.log t - M) = t * Real.exp (-M) := fun t ht => by
    rw [sub_eq_add_neg, Real.exp_add, Real.exp_log ht]
  rw [hM, ha, hb, ← EReal.coe_sub, ← EReal.coe_sub, Ideal.exp_coe, Ideal.exp_coe, h1 _ (weight_pos hJ s), h1 _ (weight_pos hB s)]
  refine ⟨rfl, rfl, ?_⟩
  rw [← EReal.coe_add, weight_two hd hU s, add_mul]

/-- The logarithm of two sets' weight, -/
theorem two_log : mt + Ideal.log (Ideal.exp (la - mt) + Ideal.exp (lb - mt)) = ((Real.log (weight U s) : ℝ) : EReal) := by
  obtain ⟨M, h1, h2, h3, h4⟩ := two_weights hJ hB hd hU s ha hb hm
  have ht : 0 < weight U s := weight_pos (by rw [hU]; exact hJ.mono Finset.subset_union_left) s
  rw [h4, h1, Ideal.log_coe, if_neg (not_le.mpr (mul_pos ht (Real.exp_pos _))), ← EReal.coe_add,
    Real.log_mul ht.ne' (Real.exp_pos _).ne', Real.log_exp]
  congr 1; ring

/-- and the mean over both, from the two means. -/
theorem two_mean : Ideal.div (mean J s v * Ideal.exp (la - mt) + mean B s v * Ideal.exp (lb - mt))
    (Ideal.exp (la - mt) + Ideal.exp (lb - mt)) = mean U s v := by
  obtain ⟨M, h1, h2, h3, h4⟩ := two_weights hJ hB hd hU s ha hb hm
  have htJ := weight_pos hJ s
  have htB := weight_pos hB s
  have ht : 0 < weight U s := weight_pos (by rw [hU]; exact hJ.mono Finset.subset_union_left) s
  have he := Real.exp_pos (-M)
  have hp := mul_pos ht he
  have hr := (one_div_pos.mpr hp).le
  rw [h4, h2, h3, div_real hp.ne', mean, mean, scale_weights (mul_pos htJ he).le, scale_weights (mul_pos htB he).le,
    add_mul_coe hr, scale_weights hr, scale_weights hr, mean]
  conv_rhs => rw [hU, Finset.sum_union hd, ← hU]
  congr 1 <;> refine Finset.sum_congr rfl fun j _ => ?_ <;> congr 2 <;> field_simp

end Two

/-! ## All at once -/

/-- The mean, as a softmax of all the scores and then a weighted sum gives it. -/
theorem mean_softmax {J : Finset ι} (hJ : J.Nonempty) (s : ι → ℝ) (v : ι → EReal) {m l : EReal}
    (hm : m = J.fold max ⊥ fun j => (s j : EReal)) (hl : l = ∑ j ∈ J, Ideal.exp ((s j : EReal) - m)) :
    ∑ j ∈ J, v j * Ideal.div (Ideal.exp ((s j : EReal) - m)) l = mean J s v := by
  obtain ⟨M, hM⟩ := fold_real J hJ s
  rw [hM] at hm
  subst hm
  have he : ∀ x : ℝ, Ideal.exp ((x : EReal) - (M : EReal)) = ((Real.exp (x - M) : ℝ) : EReal) := fun x => by
    rw [← EReal.coe_sub, Ideal.exp_coe]
  simp only [he] at hl ⊢
  rw [← coe_sum, weight_shift] at hl
  have ht := weight_pos hJ s
  have hp : 0 < weight J s * Real.exp (-M) := mul_pos ht (Real.exp_pos _)
  have := (Real.exp_pos (-M)).ne'
  subst hl
  rw [mean]
  refine Finset.sum_congr rfl fun j _ => ?_
  rw [div_real hp.ne', ← EReal.coe_mul, mul_comm]
  congr 2
  rw [sub_eq_add_neg, Real.exp_add]
  field_simp

end Cert.KProof

end
-- ==== Proof.Value.lean ====
/- The kernel's result, element by element: after its grid points a device has the mean of its own keys' values and the
   logarithm of their weights, after the first exchange those of the keys it shares with its neighbour, after the
   second the mean over all keys. -/
module

public import proofs.«01_k».proof.Proof.Blocks
public import proofs.«01_k».proof.Proof.Soft

@[expose] public section

set_option maxRecDepth 4000

noncomputable section

namespace Cert.KProof

open Cert.KernelIdeal Cert.KernelIdeal.Gen
open Idealize.ShloMosaic Idealize.ShloMosaic.TcCoe

/-! ## The keys of the devices -/

/-- The keys a device has met before its grid point `t`: those of `t` blocks of 512, from its own first block on. -/
def part (c : Dev nD) (t : ℕ) : Finset (Fin 8192) := Finset.univ.filter fun j => 4 * c.val ≤ j.val / 512 ∧ j.val / 512 < 4 * c.val + t

/-- The keys a device and its neighbour along `y` hold. -/
def pair (c : Dev nD) : Finset (Fin 8192) := Finset.univ.filter fun j => j.val / 4096 = c.val / 2

/-- The keys of block `n`. -/
def keyAt (n : Fin 16) (j : Fin 512) : Fin 8192 := ⟨512 * n.val + j.val, by have := n.isLt; have := j.isLt; omega⟩

theorem keyAt_inj (n : Fin 16) : Function.Injective (keyAt n) := fun i j h => Fin.ext (by
  have : 512 * n.val + i.val = 512 * n.val + j.val := congrArg Fin.val h
  omega)

def blockKeys (n : Fin 16) : Finset (Fin 8192) := Finset.univ.map ⟨keyAt n, keyAt_inj n⟩

theorem mem_blockKeys (n : Fin 16) (j : Fin 8192) : j ∈ blockKeys n ↔ j.val / 512 = n.val := by
  constructor
  · intro h
    obtain ⟨i, -, rfl⟩ := Finset.mem_map.mp h
    show (512 * n.val + i.val) / 512 = n.val
    have := i.isLt; omega
  · intro h
    refine Finset.mem_map.mpr ⟨⟨j.val % 512, Nat.mod_lt _ (by decide)⟩, Finset.mem_univ _, Fin.ext ?_⟩
    show 512 * n.val + j.val % 512 = j.val
    omega

/-- The block a device's grid point reads, counted over all keys. -/
def blockOf (c : Dev nD) (t : Fin grid0.N) : Fin 16 := ⟨4 * c.val + t.val, by have h : t.val < 4 := t.isLt; have h' : c.val < 4 := c.isLt; omega⟩

theorem part_zero (c : Dev nD) : part c 0 = ∅ := by
  refine Finset.filter_eq_empty_iff.mpr fun j _ => ?_
  omega

theorem part_succ (c : Dev nD) (t : Fin grid0.N) : part c (t.val + 1) = part c t.val ∪ blockKeys (blockOf c t) := by
  ext j
  rw [Finset.mem_union, mem_blockKeys, part, part, Finset.mem_filter, Finset.mem_filter]
  show _ ↔ _ ∨ j.val / 512 = 4 * c.val + t.val
  simp only [Finset.mem_univ, true_and]
  omega

theorem part_disjoint (c : Dev nD) (t : Fin grid0.N) : Disjoint (part c t.val) (blockKeys (blockOf c t)) :=
  Finset.disjoint_left.mpr fun j h h' => by
    rw [part, Finset.mem_filter] at h
    rw [mem_blockKeys] at h'
    have h' : j.val / 512 = 4 * c.val + t.val := h'
    omega

theorem mem_part (c : Dev nD) (j : Fin 8192) : j ∈ part c 4 ↔ j.val / 2048 = c.val := by
  rw [part, Finset.mem_filter]
  simp only [Finset.mem_univ, true_and]
  omega

theorem mem_pair (c : Dev nD) (j : Fin 8192) : j ∈ pair c ↔ j.val / 4096 = c.val / 2 := by
  rw [pair, Finset.mem_filter]
  simp only [Finset.mem_univ, true_and]

theorem nbrY_val (c : Dev nD) : (nbrY c).val = 2 * (c.val / 2) + 1 - c.val % 2 := rfl
theorem nbrX_val (c : Dev nD) : (nbrX c).val = c.val % 2 + 2 - 2 * (c.val / 2) := rfl

theorem part_nonempty (c : Dev nD) : (part c 4).Nonempty :=
  ⟨⟨2048 * c.val, by have h : c.val < 4 := c.isLt; omega⟩, (mem_part ..).mpr (by show 2048 * c.val / 2048 = c.val; omega)⟩

theorem pair_nonempty (c : Dev nD) : (pair c).Nonempty :=
  ⟨⟨4096 * (c.val / 2), by have h : c.val < 4 := c.isLt; omega⟩, (mem_pair ..).mpr (by show 4096 * (c.val / 2) / 4096 = c.val / 2; omega)⟩

theorem parts_disjoint (c : Dev nD) : Disjoint (part c 4) (part (nbrY c) 4) :=
  Finset.disjoint_left.mpr fun j h h' => by
    rw [mem_part] at h h'
    rw [nbrY_val] at h'
    omega

theorem parts_union (c : Dev nD) : pair c = part c 4 ∪ part (nbrY c) 4 := by
  ext j
  rw [Finset.mem_union, mem_part, mem_part, mem_pair, nbrY_val]
  have h : c.val < 4 := c.isLt
  omega

theorem pairs_disjoint (c : Dev nD) : Disjoint (pair c) (pair (nbrX c)) :=
  Finset.disjoint_left.mpr fun j h h' => by
    rw [mem_pair] at h h'
    rw [nbrX_val] at h'
    have h : c.val < 4 := c.isLt
    omega

theorem pairs_union (c : Dev nD) : (Finset.univ : Finset (Fin 8192)) = pair c ∪ pair (nbrX c) := by
  ext j
  rw [Finset.mem_union, mem_pair, mem_pair, nbrX_val]
  have h : c.val < 4 := c.isLt
  have h' : j.val < 8192 := j.isLt
  refine ⟨fun _ => ?_, fun _ => Finset.mem_univ _⟩
  omega

/-! ## What the devices have -/

/-- Where a device's own part of the keys starts. -/
def place (c : Dev nD) (j : Fin 4096) : Fin 8192 := ⟨4096 * (c.val / 2) + j.val, by have := j.isLt; have h : c.val < 4 := c.isLt; omega⟩

theorem place_row (c : Dev nD) (t : Fin grid0.N) (j : Fin 512) : place c (row c t j) = keyAt (blockOf c t) j := Fin.ext (by
  show 4096 * (c.val / 2) + (512 * (4 * (c.val % 2) + t.val) + j.val) = 512 * (4 * c.val + t.val) + j.val
  omega)

theorem ofLanes_lane {β : Type} (W : Fin 8 → S4x32x128.Idx → β) (b : Fin 4) (s : Fin 32) (h : Fin 8) (d : Fin 128) :
    ofLanes W (ix3 b s (lane h d)) = W h (ix3 b s d) :=
  (ofLanes_at W b s (lane h d) h d (by show 128 * h.val ≤ 128 * h.val + d.val; omega)
    (by show d.val = 128 * h.val + d.val - 128 * h.val; omega)).symm

theorem ofCols_col {β : Type} (W : Fin 8 → S4x32x1.Idx → β) (b : Fin 4) (s : Fin 32) (h : Fin 8) :
    ofCols W (ix3 b s h) = W h (ix3 b s (0 : Fin 1)) := (ofCols_at W b s h h 0 rfl).symm

theorem lanes_at {β : Type} (x : S4x32x1024.Idx → β) (b : Fin 4) (s : Fin 32) (h : Fin 8) (d : Fin 128) :
    lanes x h (ix3 b s d) = x (ix3 b s (lane h d)) := rfl
theorem col_at {β : Type} (x : S4x32x8.Idx → β) (b : Fin 4) (s : Fin 32) (h : Fin 8) :
    col x h (ix3 b s (0 : Fin 1)) = x (ix3 b s h) := rfl

section Pieces

variable (a : FVec Ideal S4x32x1024 .f32) (l : FVec Ideal S4x32x8 .f32) (za zb : FVec Ideal S4x32x1024 .bf16) (la lb : FVec Ideal S4x32x8 .f32)
  (b : Fin 4) (s : Fin 32) (h : Fin 8) (d : Fin 128) {mt : EReal} (hm : mt = max (la (ix3 b s h)) (lb (ix3 b s h)))

theorem z1Of_at : z1Of a l (ix3 b s (lane h d)) = Ideal.div (a (ix3 b s (lane h d))) (l (ix3 b s h)) := by
  rw [z1Of, ofLanes_lane, headZ_at, lanes_at, col_at]

include hm in
theorem z2Of_at : z2Of za la zb lb (ix3 b s (lane h d))
    = Ideal.div (za (ix3 b s (lane h d)) * Ideal.exp (la (ix3 b s h) - mt) + zb (ix3 b s (lane h d)) * Ideal.exp (lb (ix3 b s h) - mt))
      (Ideal.exp (la (ix3 b s h) - mt) + Ideal.exp (lb (ix3 b s h) - mt)) := by
  rw [z2Of, ofLanes_lane, mixZ_at (mt := mt) _ _ _ _ b s d hm, lanes_at, lanes_at, col_at, col_at]

include hm in
theorem outOf_at : outOf za la zb lb (ix3 b s (lane h d))
    = Ideal.div (za (ix3 b s (lane h d)) * Ideal.exp (la (ix3 b s h) - mt) + zb (ix3 b s (lane h d)) * Ideal.exp (lb (ix3 b s h) - mt))
      (Ideal.exp (la (ix3 b s h) - mt) + Ideal.exp (lb (ix3 b s h) - mt)) := by
  rw [outOf, ofLanes_lane, mixO_at (mt := mt) _ _ _ _ b s d hm, lanes_at, lanes_at, col_at, col_at]

include hm in
theorem l2Of_at : l2Of la lb (ix3 b s h) = mt + Ideal.log (Ideal.exp (la (ix3 b s h) - mt) + Ideal.exp (lb (ix3 b s h) - mt)) := by
  rw [l2Of, ofCols_col, mixL_at (mt := mt) _ _ b s hm, col_at, col_at]

end Pieces

section Devices

variable (m : (ℓ : Loc nD τ sig) → Buf (Elt Ideal) ℓ) (Q : FVec Ideal S4x32x8x128 .f32)
  (K V : (⟨4, ![4, 8192, 8, 128]⟩ : Shape).Idx → EReal)
  (hQ : ∀ c, argQ m c = Q) (hK : ∀ c b j h d, argK m c (ix4 b j h d) = K (ix4 b (place c j) h d))
  (hV : ∀ c b j h d, argV m c (ix4 b j h d) = V (ix4 b (place c j) h d))
  (b : Fin 4) (s : Fin 32) (h : Fin 8) (r : Fin 8192 → ℝ)
  (hr : ∀ j, ∑ d : Fin 128, Q (ix4 b s h d) * scl * K (ix4 b j h d) = (r j : EReal))

include hQ hK hr in
/-- The scores of a grid point's block. -/
theorem score_at (c : Dev nD) (t : Fin grid0.N) (j : Fin 512) :
    score (lanes (qBlk m c t) h) (keys (kBlk m c t) h) b s j = (r (keyAt (blockOf c t) j) : EReal) := by
  rw [← hr, ← place_row]
  refine Finset.sum_congr rfl fun d _ => ?_
  have h1 : lanes (qBlk m c t) h (ix3 b s d) = Q (ix4 b s h d) := (qBlk_at m c t b s h d).trans (congrFun (hQ c) _)
  have h2 : keys (kBlk m c t) h (ix4 (0 : Fin 1) b j d) = K (ix4 b (place c (row c t j)) h d) := (kBlk_at m c t b j h d).trans (hK c b _ h d)
  rw [h1, h2]

include hQ hK hV hr in
/-- The running sums. -/
theorem sums_at (c : Dev nD) (d : Fin 128) : ∀ n, n ≤ 4 → Sums (part c n) r (fun j => V (ix4 b j h d))
    ((runAt m c n).a (ix3 b s (lane h d))) ((runAt m c n).m (ix3 b s h)) ((runAt m c n).l (ix3 b s h)) := by
  intro n
  induction n with
  | zero =>
    intro _
    obtain ⟨M, hM⟩ := low_real
    have h1 : (runAt m c 0).a (ix3 b s (lane h d)) = (0 : EReal) := run0_a b s (lane h d)
    have h2 : (runAt m c 0).m (ix3 b s h) = (M : EReal) := (run0_m b s h).trans hM
    have h3 : (runAt m c 0).l (ix3 b s h) = (0 : EReal) := run0_l b s h
    rw [part_zero, h1, h2, h3]
    exact Sums.empty r _ M
  | succ n ih =>
    intro hn
    let t : Fin grid0.N := ⟨n, hn⟩
    have hs := score_at m Q K hQ hK b s h r hr c t
    have hv : ∀ j : Fin 512, keys (vBlk m c t) h (ix4 (0 : Fin 1) b j d) = V (ix4 b (keyAt (blockOf c t) j) h d) := fun j =>
      (vBlk_at m c t b j h d).trans ((hV c b _ h d).trans (by rw [place_row]))
    have e := runAt_succ m c t
    have hM : (runAt m c (n + 1)).m (ix3 b s h)
        = headM (lanes (qBlk m c t) h) (keys (kBlk m c t) h) (col (runAt m c n).m h) (ix3 b s (0 : Fin 1)) := by
      rw [show (runAt m c (n + 1)).m = stepM (qBlk m c t) (kBlk m c t) (runAt m c n).m from congrArg Run.m e, stepM, ofCols_col]
    have hL : (runAt m c (n + 1)).l (ix3 b s h)
        = headL (lanes (qBlk m c t) h) (keys (kBlk m c t) h) (col (runAt m c n).m h) (col (runAt m c n).l h) (ix3 b s (0 : Fin 1)) := by
      rw [show (runAt m c (n + 1)).l = stepL (qBlk m c t) (kBlk m c t) (runAt m c n).m (runAt m c n).l from congrArg Run.l e, stepL, ofCols_col]
    have hA : (runAt m c (n + 1)).a (ix3 b s (lane h d))
        = headA (lanes (qBlk m c t) h) (keys (kBlk m c t) h) (keys (vBlk m c t) h) (col (runAt m c n).m h) (lanes (runAt m c n).a h) (ix3 b s d) := by
      rw [show (runAt m c (n + 1)).a = stepA (qBlk m c t) (kBlk m c t) (vBlk m c t) (runAt m c n).m (runAt m c n).a from congrArg Run.a e,
        stepA, ofLanes_lane]
    rw [headL_at, ← hM] at hL
    rw [headA_at, ← hM] at hA
    rw [headM_at] at hM
    simp only [hs] at hM hL hA
    simp only [hv] at hA
    have hstep := Sums.step (ih (by omega)) (part_disjoint c t) (part_succ c t)
      (m' := (runAt m c (n + 1)).m (ix3 b s h)) (hM.trans (by rw [blockKeys, Finset.fold_map]; rfl))
    rw [blockKeys, Finset.sum_map, Finset.sum_map] at hstep
    rw [hL, hA]
    exact hstep

include hQ hK hV hr in
theorem z1_at (c : Dev nD) (d : Fin 128) :
    (vals m).z1 c (ix3 b s (lane h d)) = mean (part c 4) r fun j => V (ix4 b j h d) := by
  show z1Of (runAt m c 4).a (runAt m c 4).l (ix3 b s (lane h d)) = _
  rw [z1Of_at]
  exact Sums.mean (part_nonempty c) (sums_at m Q K V hQ hK hV b s h r hr c d 4 le_rfl)

include hQ hK hV hr in
theorem l1_at (c : Dev nD) : (vals m).l1 c (ix3 b s h) = ((Real.log (weight (part c 4) r) : ℝ) : EReal) := by
  show l1Of (runAt m c 4).m (runAt m c 4).l (ix3 b s h) = _
  rw [l1Of_at]
  exact Sums.log (part_nonempty c) (sums_at m Q K V hQ hK hV b s h r hr c 0 4 le_rfl)

include hQ hK hV hr in
theorem z2_at (c : Dev nD) (d : Fin 128) :
    (vals m).z2 c (ix3 b s (lane h d)) = mean (pair c) r fun j => V (ix4 b j h d) := by
  show z2Of ((vals m).z1 c) ((vals m).l1 c) ((vals m).z1 (nbrY c)) ((vals m).l1 (nbrY c)) (ix3 b s (lane h d)) = _
  rw [z2Of_at _ _ _ _ b s h d rfl, z1_at m Q K V hQ hK hV b s h r hr c d, z1_at m Q K V hQ hK hV b s h r hr (nbrY c) d]
  exact two_mean (part_nonempty c) (part_nonempty (nbrY c)) (parts_disjoint c) (parts_union c) r _
    (l1_at m Q K V hQ hK hV b s h r hr c) (l1_at m Q K V hQ hK hV b s h r hr (nbrY c)) rfl

include hQ hK hV hr in
theorem l2_at (c : Dev nD) : (vals m).l2 c (ix3 b s h) = ((Real.log (weight (pair c) r) : ℝ) : EReal) := by
  show l2Of ((vals m).l1 c) ((vals m).l1 (nbrY c)) (ix3 b s h) = _
  rw [l2Of_at _ _ b s h rfl]
  exact two_log (part_nonempty c) (part_nonempty (nbrY c)) (parts_disjoint c) (parts_union c) r
    (l1_at m Q K V hQ hK hV b s h r hr c) (l1_at m Q K V hQ hK hV b s h r hr (nbrY c)) rfl

include hQ hK hV hr in
/-- What every device returns. -/
theorem outV_at (c : Dev nD) (d : Fin 128) :
    outV m c (ix3 b s (lane h d)) = mean Finset.univ r fun j => V (ix4 b j h d) := by
  rw [outV, outOf_at _ _ _ _ b s h d rfl, z2_at m Q K V hQ hK hV b s h r hr c d, z2_at m Q K V hQ hK hV b s h r hr (nbrX c) d]
  exact two_mean (pair_nonempty c) (pair_nonempty (nbrX c)) (pairs_disjoint c) (pairs_union c) r _
    (l2_at m Q K V hQ hK hV b s h r hr c) (l2_at m Q K V hQ hK hV b s h r hr (nbrX c)) rfl

end Devices

end Cert.KProof

end
-- ==== Proof.RefValue.lean ====
/- The reference's result: at each index, the mean of the values weighted by the exponentials of the scores. -/
module

public import proofs.«01_k».proof.Proof.Gen.ReferenceIdeal.Run
public import proofs.«01_k».proof.Proof.Soft
public import Idealize.ShloMosaic.Lib.Pointwise

@[expose] public section

noncomputable section

namespace Cert.KProof.Ref

open Cert.ReferenceIdeal Cert.ReferenceIdeal.Gen
open Idealize.ShloMosaic

variable (q : FVec Ideal S4x32x8x128 .f32) (k v : FVec Ideal S4x8192x8x128 .f32)

/-- The scores, -/
def scores : FVec Ideal S4x8x32x8192 .f32 :=
  mulf (Host.dotGeneral dot_S4x32x8x128_S4x8192x8x128_S4x8x32x8192_3_3_1_1_02_02 none q k)
    (broadcastInDim S4x8x32x8192 ![] bcast_S_S4x8x32x8192 (constant S_ .f32 0x3DB504F3#32))

/-- a number of each query beside every key, -/
def wide (x : FVec Ideal S4x8x32 .f32) : FVec Ideal S4x8x32x8192 .f32 :=
  broadcastInDim S4x8x32x8192 ![0, 1, 2, 3] bcast_S4x8x32x1_S4x8x32x8192_0_1_2_3
    (broadcastInDim S4x8x32x1 ![0, 1, 2] bcast_S4x8x32_S4x8x32x1_0_1_2 x)

/-- their maxima, -/
def top (x : FVec Ideal S4x8x32x8192 .f32) : FVec Ideal S4x8x32 .f32 :=
  Host.reduce FloatOps.maximumf x (constant S_ .f32 0xFF800000#32) reducesTo_S4x8x32x8192_S4x8x32_d3 h_S_

/-- their exponentials relative to the maxima, -/
def expo (x : FVec Ideal S4x8x32x8192 .f32) : FVec Ideal S4x8x32x8192 .f32 := Host.exp (subf x (wide (top x)))

/-- and the result. -/
def out : FVec Ideal S4x32x8x128 .f32 :=
  transpose S4x32x8x128 [0, 3, 1, 2]
    (Host.dotGeneral dot_S4x8192x8x128_S4x8x32x8192_S4x8x128x32_1_3_3_2_02_01 none v
      (Host.divf (expo (scores q k)) (wide (Host.reduceAdd (expo (scores q k)) (constant S_ .f32 0x00000000#32) reducesTo_S4x8x32x8192_S4x8x32_d3 h_S_))))
    transposes_S4x8x128x32_S4x32x8x128_0_3_1_2

theorem scores_at (b : Fin 4) (s : Fin 32) (h : Fin 8) (j : Fin 8192) :
    scores q k (ix4 b h s j) = (∑ d : Fin 128, q (ix4 b s h d) * k (ix4 b j h d)) * Ideal.ofBits .f32 0x3DB504F3#32 := by
  pointwise [scores]

theorem top_at (x : FVec Ideal S4x8x32x8192 .f32) (b : Fin 4) (s : Fin 32) (h : Fin 8) :
    top x (ix3 b h s) = Finset.univ.fold max (Ideal.ofBits .f32 0xFF800000#32) fun j : Fin 8192 => x (ix4 b h s j) := by
  pointwise [top]

theorem expo_at (x : FVec Ideal S4x8x32x8192 .f32) (b : Fin 4) (s : Fin 32) (h : Fin 8) (j : Fin 8192) :
    expo x (ix4 b h s j) = Ideal.exp (x (ix4 b h s j) - top x (ix3 b h s)) := by
  pointwise [expo, wide]

theorem out_at (b : Fin 4) (s : Fin 32) (h : Fin 8) (d : Fin 128) :
    out q k v (ix4 b s h d) = ∑ j : Fin 8192, v (ix4 b j h d)
      * Ideal.div (expo (scores q k) (ix4 b h s j)) (∑ i : Fin 8192, expo (scores q k) (ix4 b h s i)) := by
  pointwise [out, wide]

/-- With real scores, the result is their weighted mean of the values. -/
theorem out_mean (b : Fin 4) (s : Fin 32) (h : Fin 8) (d : Fin 128) (r : Fin 8192 → ℝ)
    (hr : ∀ j, scores q k (ix4 b h s j) = (r j : EReal)) :
    out q k v (ix4 b s h d) = mean Finset.univ r fun j => v (ix4 b j h d) := by
  have hb : Ideal.ofBits .f32 0xFF800000#32 = ⊥ := by simp [Ideal.ofBits, Ideal.ieee]
  rw [out_at]
  simp only [expo_at, hr]
  exact mean_softmax ⟨0, Finset.mem_univ _⟩ r _ ((top_at ..).trans (by rw [hb]; simp only [hr])) rfl

open Idealize.SL.Sem in
/-- The reference's run. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.KProof.Ref

end
-- ==== Proof.Result.lean ====
/- The two programs' results agree: with finite queries and keys the scores are reals, and both are the mean of the
   values weighted by the scores' exponentials. -/
module

public import proofs.«01_k».proof.Defs
public import proofs.«01_k».proof.Proof.Gen.KernelIdeal
public import proofs.«01_k».proof.Proof.Gen.ReferenceIdeal
public import proofs.«01_k».proof.Proof.Value
public import proofs.«01_k».proof.Proof.RefValue
public import proofs.«01_k».proof.Proof.Run

@[expose] public section

set_option maxRecDepth 4000
set_option maxHeartbeats 1000000

noncomputable section

namespace Cert.KProof

open Idealize.ShloMosaic Idealize.ShloMosaic.TcCoe Idealize.SL.Sem

theorem pre_facts : Cert.Pre_finite_KernelIdeal.Facts := ⟨by decide, by decide⟩
theorem pre_facts_ref : Cert.Pre_finite_ReferenceIdeal.Facts := ⟨by decide, by decide⟩

theorem top_word : Ideal.ofBits .f32 0x7F800000#32 = ⊤ := by simp [Ideal.ofBits, Ideal.ieee]

/-- A number below infinity in magnitude is real. -/
theorem real_of_abs {x : EReal} (h : max x (-x) < ⊤) : ∃ r : ℝ, x = (r : EReal) := by
  have h1 : x ≠ ⊤ := fun e => by simp [e] at h
  have h2 : x ≠ ⊥ := fun e => by simp [e] at h
  exact ⟨x.toReal, (EReal.coe_toReal h1 h2).symm⟩

/-- What the precondition's comparison says. -/
theorem real_of_cmp {x : EReal} (h : Ideal.cmp .olt (max x (-x)) (Ideal.ofBits .f32 0x7F800000#32) = 1#1) : ∃ r : ℝ, x = (r : EReal) := by
  rw [top_word] at h
  refine real_of_abs (by_contra fun hn => ?_)
  have e : Ideal.cmp .olt (max x (-x)) ⊤ = BitVec.ofBool (decide (max x (-x) < ⊤)) := rfl
  rw [e, decide_eq_false hn] at h
  exact absurd h (by decide)

section Pre

variable [Cert.KernelIdeal.Facts] [Cert.Pre_finite_KernelIdeal.Facts] (q : FVec Ideal Cert.KernelIdeal.S4x32x8x128 .f32)
  (k v : FVec Ideal Cert.KernelIdeal.S4x4096x8x128 .f32)

theorem pre_q (h : (Cert.Pre_finite_KernelIdeal.fn (F := Ideal) q k v).1 = fun _ => 1#1) (ix : Cert.KernelIdeal.S4x32x8x128.Idx) :
    ∃ r : ℝ, q ix = (r : EReal) := real_of_cmp (congrFun h ix)

theorem pre_k (h : (Cert.Pre_finite_KernelIdeal.fn (F := Ideal) q k v).2 = fun _ => 1#1) (ix : Cert.KernelIdeal.S4x4096x8x128.Idx) :
    ∃ r : ℝ, k ix = (r : EReal) := real_of_cmp (congrFun h ix)

end Pre

/-! ## The devices' parts of the keys and values -/

theorem meshX : ∀ c : Fin 4, Layout.meshLin [2, 2] c.val [0] = c.val / 2 := by decide

theorem part_at (X : (⟨4, ![4, 8192, 8, 128]⟩ : Shape).Idx → EReal) (c : Dev Cert.KernelIdeal.nD) (b : Fin 4) (j : Fin 4096) (h : Fin 8) (d : Fin 128) :
    Layout.blockN ⟨4, ![4, 4096, 8, 128]⟩ ⟨4, ![4, 8192, 8, 128]⟩ (Layout.meshBlock [2, 2] ![[], [0], [], []] c) X (by decide) (ix4 b j h d)
      = X (ix4 b (place c j) h d) := by
  refine congrArg X (funext fun a => Fin.ext ?_)
  fin_cases a
  · show 0 * 4 + b.val = b.val; omega
  · show Layout.meshLin [2, 2] c.val [0] * 4096 + j.val = 4096 * (c.val / 2) + j.val
    rw [meshX c]; omega
  · show 0 * 8 + h.val = h.val; omega
  · show 0 * 128 + d.val = d.val; omega

/-- Every key is some device's. -/
theorem place_onto (j : Fin 8192) : ∃ (c : Dev Cert.KernelIdeal.nD) (i : Fin 4096), place c i = j :=
  ⟨(⟨2 * (j.val / 4096), by have := j.isLt; omega⟩ : Fin 4), ⟨j.val % 4096, Nat.mod_lt _ (by decide)⟩, Fin.ext (by
    show 4096 * (2 * (j.val / 4096) / 2) + j.val % 4096 = j.val
    omega)⟩

/-! ## The results -/

section Result

variable (Q : FVec Ideal Cert.KernelIdeal.S4x32x8x128 .f32) (K V : (⟨4, ![4, 8192, 8, 128]⟩ : Shape).Idx → EReal)
  (hq : ∀ ix, ∃ r : ℝ, Q ix = (r : EReal)) (hk : ∀ b j h d, ∃ r : ℝ, K (ix4 b j h d) = (r : EReal))

include hq hk in
/-- The scores are the same reals whichever way the factor is taken in. -/
theorem scores_real (b : Fin 4) (s : Fin 32) (h : Fin 8) : ∃ r : Fin 8192 → ℝ,
    (∀ j, ∑ d : Fin 128, Q (ix4 b s h d) * scl * K (ix4 b j h d) = (r j : EReal))
    ∧ ∀ j, Ref.scores Q K (ix4 b h s j) = (r j : EReal) := by
  choose q hq using fun d => hq (ix4 b s h d)
  choose k hk using fun j d => hk b j h d
  obtain ⟨f, hf⟩ := scl_real
  refine ⟨fun j => ∑ d : Fin 128, q d * f * k j d, fun j => ?_, fun j => ?_⟩
  · rw [coe_sum]
    refine Finset.sum_congr rfl fun d _ => ?_
    rw [hq, hk, hf, ← EReal.coe_mul, ← EReal.coe_mul]
  · rw [Ref.scores_at, show Ideal.ofBits .f32 0x3DB504F3#32 = (f : EReal) from hf]
    have e : ∀ d : Fin 128, Q (ix4 b s h d) * K (ix4 b j h d) = ((q d * k j d : ℝ) : EReal) := fun d => by rw [hq, hk, ← EReal.coe_mul]
    simp only [e]
    rw [← coe_sum, ← EReal.coe_mul, Finset.sum_mul]
    congr 1
    exact Finset.sum_congr rfl fun d _ => by ring

variable (m : (ℓ : Loc Cert.KernelIdeal.nD Cert.KernelIdeal.τ Cert.KernelIdeal.sig) → Buf (Elt Ideal) ℓ)
  (hQ : ∀ c, argQ m c = Q) (hK : ∀ c b j h d, argK m c (ix4 b j h d) = K (ix4 b (place c j) h d))
  (hV : ∀ c b j h d, argV m c (ix4 b j h d) = V (ix4 b (place c j) h d))

include hq hk hQ hK hV in
/-- Every device returns the reference's result. -/
theorem result_eq (c : Dev Cert.KernelIdeal.nD) :
    (Cert.KernelIdeal.Gen.V3 m (outsOf m) c Cert.KernelIdeal.main_v8 : FVec Ideal Cert.KernelIdeal.S4x32x8x128 .f32) = Ref.out Q K V := by
  funext ix
  obtain ⟨b, s, h, d, rfl⟩ : ∃ b s h d, ix = ix4 b s h d := ⟨_, _, _, _, eq_ix4 ix⟩
  obtain ⟨r, hr, hr'⟩ := scores_real Q K hq hk b s h
  rw [result_at, outV_at m Q K V hQ hK hV b s h r hr c d, Ref.out_mean Q K V b s h d r hr']

end Result

/-- The two programs compute the same. -/
theorem algebraic : @Cert.algebraic_KernelIdeal_ReferenceIdeal_pre_finite_KernelIdeal
    Cert.KernelIdeal.Gen.facts Cert.ReferenceIdeal.Gen.facts pre_facts := by
  letI := pre_facts
  intro m g m' g' hpre hin
  let K : FVec Ideal Cert.ReferenceIdeal.S4x8192x8x128 .f32 := m' (((0 : Dev Cert.ReferenceIdeal.nD).tc : Thread Cert.ReferenceIdeal.nD Cert.ReferenceIdeal.τ).loc Cert.ReferenceIdeal.main_arg1)
  let V : FVec Ideal Cert.ReferenceIdeal.S4x8192x8x128 .f32 := m' (((0 : Dev Cert.ReferenceIdeal.nD).tc : Thread Cert.ReferenceIdeal.nD Cert.ReferenceIdeal.τ).loc Cert.ReferenceIdeal.main_arg2)
  let Q : FVec Ideal Cert.ReferenceIdeal.S4x32x8x128 .f32 := m' (((0 : Dev Cert.ReferenceIdeal.nD).tc : Thread Cert.ReferenceIdeal.nD Cert.ReferenceIdeal.τ).loc Cert.ReferenceIdeal.main_arg0)
  have hQ : ∀ c, argQ m c = Q := fun c => (hin c).1
  have hK : ∀ c b j h d, argK m c (ix4 b j h d) = K (ix4 b (place c j) h d) := fun c b j h d =>
    (congrFun (hin c).2.1 (ix4 b j h d)).trans (part_at K c b j h d)
  have hV : ∀ c b j h d, argV m c (ix4 b j h d) = V (ix4 b (place c j) h d) := fun c b j h d =>
    (congrFun (hin c).2.2 (ix4 b j h d)).trans (part_at V c b j h d)
  have hq : ∀ ix, ∃ r : ℝ, Q ix = (r : EReal) := fun ix => by
    obtain ⟨r, hr⟩ := pre_q _ _ _ (hpre 0).1 ix
    exact ⟨r, (congrFun (hQ 0) ix).symm.trans hr⟩
  have hk : ∀ b j h d, ∃ r : ℝ, K (ix4 b j h d) = (r : EReal) := fun b j h d => by
    obtain ⟨c', i, rfl⟩ := place_onto j
    obtain ⟨r, hr⟩ := pre_k _ _ _ (hpre c').2 (ix4 b i h d)
    exact ⟨r, (hK c' b i h d).symm.trans hr⟩
  have hres := result_eq Q K V hq hk m hQ hK hV
  refine ⟨Ref.out Q K V, (θ_run Cert.KernelIdeal.defs _ _).mono (fun r h c => ⟨((h.1 c).1.2.2.2).trans (hres c), (h.1 c).1.1, (h.1 c).1.2.1, (h.1 c).1.2.2.1⟩)
      (run_main (F := Ideal) m g),
    (θ_run Cert.ReferenceIdeal.defs _ _).mono (fun r h => h 0) (Ref.run m' g')⟩

end Cert.KProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Result
public import Idealize.ShloMosaic.Adequacy
public import Idealize.ShloMosaic.Init

@[expose] public section

noncomputable section

namespace Cert.Proof

open Idealize.ShloMosaic Idealize.SL.Sem

/-- The kernel's frame: the two programs have the same text, so it is the run at the floats' words. -/
theorem frame_kernel : Cert.quiescent_Kernel := fun m ρ _ =>
  (congrFun (congrFun (Cert.KProof.run_same (F := Bits)) _) _).mpr
    ((θ_run Cert.KernelIdeal.defs _ _).mono (fun _ h => ⟨fun c => ⟨(h.1 c).1.1, (h.1 c).1.2.1, (h.1 c).1.2.2.1⟩, h.2⟩)
      (Cert.KProof.run_main (F := Bits) m ρ))

/-- Its idealization's. -/
theorem frame_ideal : Cert.quiescent_KernelIdeal := fun m ρ _ =>
  (θ_run Cert.KernelIdeal.defs _ _).mono (fun _ h => ⟨fun c => ⟨(h.1 c).1.1, (h.1 c).1.2.1, (h.1 c).1.2.2.1⟩, h.2⟩)
    (Cert.KProof.run_main (F := Ideal) m ρ)

/-- The reference's frame: it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.KProof.pre_facts, Cert.KProof.pre_facts_ref,
  frame_kernel, frame_ideal, fun m ρ _ => frame_ideal m ρ trivial, frame_reference, fun m ρ _ => frame_reference m ρ trivial,
  trivial, Cert.KProof.algebraic⟩

end Cert.Proof

end
